-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_affinities_no_padding [hPre_finite_affinities_no_padding : Cert.Pre_finite_affinities_no_padding.Facts] (m : (ℓ : Loc Cert.KernelIdeal.nD Cert.KernelIdeal.τ Cert.KernelIdeal.sig) → Buf (Elt Ideal) ℓ) : Prop :=
  ∀ c : Dev Cert.KernelIdeal.nD,
    (Cert.Pre_finite_affinities_no_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite_affinities_no_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite_affinities_no_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_finite_affinities_no_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_affinities_no_padding [hPre_finite_affinities_no_padding : Cert.Pre_finite_affinities_no_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_affinities_no_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite_affinities_no_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite_affinities_no_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_finite_affinities_no_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_affinities_no_padding [hKernelIdeal : Cert.KernelIdeal.Facts] [hPre_finite_affinities_no_padding : Cert.Pre_finite_affinities_no_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_affinities_no_padding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_affinities_no_padding [hReferenceIdeal : Cert.ReferenceIdeal.Facts] [hPre_finite_affinities_no_padding : Cert.Pre_finite_affinities_no_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_affinities_no_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_affinities_no_padding [hKernelIdeal : Cert.KernelIdeal.Facts] [hReferenceIdeal : Cert.ReferenceIdeal.Facts] [hPre_finite_affinities_no_padding : Cert.Pre_finite_affinities_no_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_affinities_no_padding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_affinities_no_padding : Cert.Pre_finite_affinities_no_padding.Facts),
    quiescent_Kernel (hKernel := hKernel)
    ∧ quiescent_KernelIdeal (hKernelIdeal := hKernelIdeal)
    ∧ quiescent_KernelIdeal_pre_finite_affinities_no_padding (hKernelIdeal := hKernelIdeal) (hPre_finite_affinities_no_padding := hPre_finite_affinities_no_padding)
    ∧ quiescent_ReferenceIdeal (hReferenceIdeal := hReferenceIdeal)
    ∧ quiescent_ReferenceIdeal_pre_finite_affinities_no_padding (hReferenceIdeal := hReferenceIdeal) (hPre_finite_affinities_no_padding := hPre_finite_affinities_no_padding)
    ∧ preserves_Kernel_KernelIdeal
    ∧ algebraic_KernelIdeal_ReferenceIdeal_pre_finite_affinities_no_padding (hKernelIdeal := hKernelIdeal) (hReferenceIdeal := hReferenceIdeal) (hPre_finite_affinities_no_padding := hPre_finite_affinities_no_padding)
-- ==== Pre_finite_affinities_no_padding.lean ====
abbrev S8x2048x128 : Shape := ⟨3, ![8, 2048, 128]⟩
abbrev S8x2048 : Shape := ⟨2, ![8, 2048]⟩
abbrev S8x2048x3 : Shape := ⟨3, ![8, 2048, 3]⟩
abbrev S128x128 : Shape := ⟨2, ![128, 128]⟩
abbrev S128 : Shape := ⟨1, ![128]⟩
abbrev S128x8 : Shape := ⟨2, ![128, 8]⟩
abbrev S8 : Shape := ⟨1, ![8]⟩
abbrev S128x512 : Shape := ⟨2, ![128, 512]⟩
abbrev S512x128 : Shape := ⟨2, ![512, 128]⟩
abbrev S_ : Shape := ⟨0, ![]⟩

class Facts : Prop where
  bcast_S_S128x128 : S_.BroadcastsInDim S128x128 (![] : Fin 0 → Fin S128x128.rank)
  bcast_S_S128x8 : S_.BroadcastsInDim S128x8 (![] : Fin 0 → Fin S128x8.rank)
  bcast_S_S8 : S_.BroadcastsInDim S8 (![] : Fin 0 → Fin S8.rank)

variable [Facts]

def fn {F : FTy → Type} [FloatOps F] (main_arg0 : FVec F S8x2048x128 .f32) (main_arg1 : IVec S8x2048 32) (main_arg2 : FVec F S8x2048x3 .f32) (main_arg3 : IVec S8x2048 1) (main_arg4 : FVec F S128x128 .f32) (main_arg5 : FVec F S128 .f32) (main_arg6 : FVec F S128x128 .f32) (main_arg7 : FVec F S128x8 .f32) (main_arg8 : FVec F S8 .f32) (main_arg9 : FVec F S128 .f32) (main_arg10 : FVec F S128 .f32) (main_arg11 : FVec F S128x512 .f32) (main_arg12 : FVec F S128x512 .f32) (main_arg13 : FVec F S512x128 .f32) (main_arg14 : FVec F S128 .f32) : IVec S8x2048 1 × IVec S128x128 1 × IVec S128x8 1 × IVec S8 1 :=
  let main_v0 : FVec F S128x128 .f32 := Host.absf main_arg6
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_v3 : FVec F S128x8 .f32 := Host.absf main_arg7
  let main_cst_0 : FVec F S_ .f32 := constant S_ .f32 0x7F800000#32
  let main_v4 : FVec F S128x8 .f32 := broadcastInDim S128x8 ![] bcast_S_S128x8 main_cst_0
  let main_v5 : IVec S128x8 1 := cmpf .olt main_v3 main_v4
  let main_v6 : FVec F S8 .f32 := Host.absf main_arg8
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_arg3, main_v2, main_v5, main_v8)
-- ==== Kernel.lean ====
abbrev S8x2048x128 : Shape := ⟨3, ![8, 2048, 128]⟩
abbrev S8x2048 : Shape := ⟨2, ![8, 2048]⟩
abbrev S8x2048x3 : Shape := ⟨3, ![8, 2048, 3]⟩
abbrev S128x128 : Shape := ⟨2, ![128, 128]⟩
abbrev S128 : Shape := ⟨1, ![128]⟩
abbrev S128x8 : Shape := ⟨2, ![128, 8]⟩
abbrev S8 : Shape := ⟨1, ![8]⟩
abbrev S128x512 : Shape := ⟨2, ![128, 512]⟩
abbrev S512x128 : Shape := ⟨2, ![512, 128]⟩
abbrev S16384x128 : Shape := ⟨2, ![16384, 128]⟩
abbrev S1x128 : Shape := ⟨2, ![1, 128]⟩
abbrev S4096x128 : Shape := ⟨2, ![4096, 128]⟩
abbrev S4096 : Shape := ⟨1, ![4096]⟩
abbrev S4096x1 : Shape := ⟨2, ![4096, 1]⟩
abbrev S4096x512 : Shape := ⟨2, ![4096, 512]⟩

abbrev nBuf : Space → Nat
  | .hbm => 21
  | .vmem => 11
  | .smem => 0
  | _ => 0

abbrev bufTy : (tb : Table) → Fin (tcTables nBuf tb) → BufTy
  | .hbm, ⟨0, _⟩ => ⟨S8x2048x128, .f32⟩
  | .hbm, ⟨1, _⟩ => ⟨S8x2048, .i32⟩
  | .hbm, ⟨2, _⟩ => ⟨S8x2048x3, .f32⟩
  | .hbm, ⟨3, _⟩ => ⟨S8x2048, .i1⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x8, .f32⟩
  | .hbm, ⟨8, _⟩ => ⟨S8, .f32⟩
  | .hbm, ⟨9, _⟩ => ⟨S128, .f32⟩
  | .hbm, ⟨10, _⟩ => ⟨S128, .f32⟩
  | .hbm, ⟨11, _⟩ => ⟨S128x512, .f32⟩
  | .hbm, ⟨12, _⟩ => ⟨S128x512, .f32⟩
  | .hbm, ⟨13, _⟩ => ⟨S512x128, .f32⟩
  | .hbm, ⟨14, _⟩ => ⟨S128, .f32⟩
  | .hbm, ⟨15, _⟩ => ⟨S16384x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S16384x128, .f32⟩
  | .hbm, ⟨20, _⟩ => ⟨S8x2048x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x512, .f32⟩
  | .local _ .vmem, ⟨7, _⟩ => ⟨S128x512, .f32⟩
  | .local _ .vmem, ⟨8, _⟩ => ⟨S512x128, .f32⟩
  | .local _ .vmem, ⟨9, _⟩ => ⟨S4096x128, .f32⟩
  | .local _ .vmem, ⟨10, _⟩ => ⟨S4096x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x2048x128 : Shape := ⟨3, ![8, 2048, 128]⟩
abbrev S8x2048 : Shape := ⟨2, ![8, 2048]⟩
abbrev S8x2048x3 : Shape := ⟨3, ![8, 2048, 3]⟩
abbrev S128x128 : Shape := ⟨2, ![128, 128]⟩
abbrev S128 : Shape := ⟨1, ![128]⟩
abbrev S128x8 : Shape := ⟨2, ![128, 8]⟩
abbrev S8 : Shape := ⟨1, ![8]⟩
abbrev S128x512 : Shape := ⟨2, ![128, 512]⟩
abbrev S512x128 : Shape := ⟨2, ![512, 128]⟩
abbrev S_ : Shape := ⟨0, ![]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S8x2048x32 : Shape := ⟨3, ![8, 2048, 32]⟩
abbrev S8x2048x32x1 : Shape := ⟨4, ![8, 2048, 32, 1]⟩
abbrev S1 : Shape := ⟨1, ![1]⟩
abbrev S1x1x1x1 : Shape := ⟨4, ![1, 1, 1, 1]⟩
abbrev S1x1x1x128 : Shape := ⟨4, ![1, 1, 1, 128]⟩
abbrev S8x2048x32x128 : Shape := ⟨4, ![8, 2048, 32, 128]⟩
abbrev S8x2048x32x8 : Shape := ⟨4, ![8, 2048, 32, 8]⟩
abbrev S1x1x1x8 : Shape := ⟨4, ![1, 1, 1, 8]⟩
abbrev S8x2048x8x32 : Shape := ⟨4, ![8, 2048, 8, 32]⟩
abbrev S8x2048x8 : Shape := ⟨3, ![8, 2048, 8]⟩
abbrev S8x2048x8x1 : Shape := ⟨4, ![8, 2048, 8, 1]⟩
abbrev S8x2048x1x32 : Shape := ⟨4, ![8, 2048, 1, 32]⟩
abbrev S1x1x128 : Shape := ⟨3, ![1, 1, 128]⟩
abbrev S8x2048x8x16x1 : Shape := ⟨5, ![8, 2048, 8, 16, 1]⟩
abbrev S8x2048x8x1x32 : Shape := ⟨5, ![8, 2048, 8, 1, 32]⟩
abbrev S8x2048x8x16x32 : Shape := ⟨5, ![8, 2048, 8, 16, 32]⟩
abbrev S8x2048x8x16 : Shape := ⟨4, ![8, 2048, 8, 16]⟩
abbrev S8x2048x512 : Shape := ⟨3, ![8, 2048, 512]⟩

abbrev nBuf : Space → Nat
  | .hbm => 204
  | .vmem => 0
  | .smem => 0
  | _ => 0

abbrev hbmTy0_0 (i : Nat) : BufTy := match i % 128 with
  | 0 => ⟨S8x2048x128, .f32⟩
  | 1 => ⟨S8x2048, .i32⟩
  | 2 => ⟨S8x2048x3, .f32⟩
  | 3 => ⟨S8x2048, .i1⟩
  | 4 => ⟨S128x128, .f32⟩
  | 5 => ⟨S128, .f32⟩
  | 6 => ⟨S128x128, .f32⟩
  | 7 => ⟨S128x8, .f32⟩
  | 8 => ⟨S8, .f32⟩
  | 9 => ⟨S128, .f32⟩
  | 10 => ⟨S128, .f32⟩
  | 11 => ⟨S128x512, .f32⟩
  | 12 => ⟨S128x512, .f32⟩
  | 13 => ⟨S512x128, .f32⟩
  | 14 => ⟨S128, .f32⟩
  | 15 => ⟨S8x2048x3, .f32⟩
  | 16 => ⟨S_, .f32⟩
  | 17 => ⟨S8x2048, .f32⟩
  | 18 => ⟨S8x2048x1, .f32⟩
  | 19 => ⟨S8x1x2048, .f32⟩
  | 20 => ⟨S8x2048x2048, .f32⟩
  | 21 => ⟨S8x2048x2048, .f32⟩
  | 22 => ⟨S8x2048x2048, .f32⟩
  | 23 => ⟨S8x2048x2048, .f32⟩
  | 24 => ⟨S_, .f32⟩
  | 25 => ⟨S8x2048x2048, .f32⟩
  | 26 => ⟨S8x2048x2048, .f32⟩
  | 27 => ⟨S8x2048x2048, .f32⟩
  | 28 => ⟨S_, .f32⟩
  | 29 => ⟨S8x2048x2048, .f32⟩
  | 30 => ⟨S8x2048x2048, .f32⟩
  | 31 => ⟨S8x2048x2048, .f32⟩
  | 32 => ⟨S8x2048x32, .f32⟩
  | 33 => ⟨S8x2048x32, .i32⟩
  | 34 => ⟨S_, .i32⟩
  | 35 => ⟨S8x2048x32, .i32⟩
  | 36 => ⟨S8x2048x32, .i1⟩
  | 37 => ⟨S_, .i32⟩
  | 38 => ⟨S8x2048x32, .i32⟩
  | 39 => ⟨S8x2048x32, .i32⟩
  | 40 => ⟨S8x2048x32, .i32⟩
  | 41 => ⟨S8x2048x32x1, .i32⟩
  | 42 => ⟨S1, .i32⟩
  | 43 => ⟨S_, .i32⟩
  | 44 => ⟨S8x2048x32x1, .i32⟩
  | 45 => ⟨S8x2048x32x1, .i1⟩
  | 46 => ⟨S1x1x1x1, .i32⟩
  | 47 => ⟨S8x2048x32x1, .i32⟩
  | 48 => ⟨S8x2048x32x1, .i1⟩
  | 49 => ⟨S8x2048x32x1, .i1⟩
  | 50 => ⟨S_, .i1⟩
  | 51 => ⟨S8x2048x32, .i1⟩
  | 52 => ⟨S8x2048x32, .f32⟩
  | 53 => ⟨S_, .f32⟩
  | 54 => ⟨S8x2048x32, .f32⟩
  | 55 => ⟨S8x2048x32, .f32⟩
  | 56 => ⟨S8x2048x32, .f32⟩
  | 57 => ⟨S8x2048x32x1, .f32⟩
  | 58 => ⟨S1x1x1x128, .f32⟩
  | 59 => ⟨S8x2048x32x128, .f32⟩
  | 60 => ⟨S8x2048x32x128, .f32⟩
  | 61 => ⟨S8x2048x32x128, .f32⟩
  | 62 => ⟨S8x2048x32x128, .f32⟩
  | 63 => ⟨S8x2048x32x128, .i32⟩
  | 64 => ⟨S_, .f32⟩
  | 65 => ⟨S_, .i32⟩
  | 66 => ⟨S8x2048x32, .f32⟩
  | 67 => ⟨S8x2048x32, .i32⟩
  | 68 => ⟨S_, .i32⟩
  | 69 => ⟨S8x2048x32, .i32⟩
  | 70 => ⟨S8x2048x32, .i1⟩
  | 71 => ⟨S_, .i32⟩
  | 72 => ⟨S8x2048x32, .i32⟩
  | 73 => ⟨S8x2048x32, .i32⟩
  | 74 => ⟨S8x2048x32, .i32⟩
  | 75 => ⟨S8x2048x32x1, .i32⟩
  | 76 => ⟨S1, .i32⟩
  | 77 => ⟨S_, .i32⟩
  | 78 => ⟨S8x2048x32x1, .i32⟩
  | 79 => ⟨S8x2048x32x1, .i1⟩
  | 80 => ⟨S1x1x1x1, .i32⟩
  | 81 => ⟨S8x2048x32x1, .i32⟩
  | 82 => ⟨S8x2048x32x1, .i1⟩
  | 83 => ⟨S8x2048x32x1, .i1⟩
  | 84 => ⟨S_, .i1⟩
  | 85 => ⟨S8x2048x32, .i1⟩
  | 86 => ⟨S8x2048x32x128, .f32⟩
  | 87 => ⟨S8x2048x32x128, .i1⟩
  | 88 => ⟨S_, .f32⟩
  | 89 => ⟨S8x2048x32x128, .f32⟩
  | 90 => ⟨S8x2048x32x128, .f32⟩
  | 91 => ⟨S8x2048x32x8, .f32⟩
  | 92 => ⟨S1x1x1x8, .f32⟩
  | 93 => ⟨S8x2048x32x8, .f32⟩
  | 94 => ⟨S8x2048x32x8, .f32⟩
  | 95 => ⟨S8x2048x8x32, .f32⟩
  | 96 => ⟨S_, .f32⟩
  | 97 => ⟨S8x2048x8, .f32⟩
  | 98 => ⟨S_, .f32⟩
  | 99 => ⟨S8x2048x8, .f32⟩
  | 100 => ⟨S8x2048x8, .f32⟩
  | 101 => ⟨S8x2048x8x1, .f32⟩
  | 102 => ⟨S8x2048x8x32, .f32⟩
  | 103 => ⟨S8x2048x8x32, .f32⟩
  | 104 => ⟨S8x2048x8x32, .f32⟩
  | 105 => ⟨S_, .f32⟩
  | 106 => ⟨S8x2048x8, .f32⟩
  | 107 => ⟨S8x2048x8x1, .f32⟩
  | 108 => ⟨S8x2048x8x32, .f32⟩
  | 109 => ⟨S8x2048x8x32, .f32⟩
  | 110 => ⟨S8x2048, .f32⟩
  | 111 => ⟨S_, .i32⟩
  | 112 => ⟨S8x2048x32, .i32⟩
  | 113 => ⟨S8x2048x32, .i1⟩
  | 114 => ⟨S_, .i32⟩
  | 115 => ⟨S8x2048x32, .i32⟩
  | 116 => ⟨S8x2048x32, .i32⟩
  | 117 => ⟨S8x2048x32, .i32⟩
  | 118 => ⟨S8x2048x32x1, .i32⟩
  | 119 => ⟨S8x2048x32, .f32⟩
  | 120 => ⟨S8x2048x1, .f32⟩
  | 121 => ⟨S8x2048x32, .f32⟩
  | 122 => ⟨S8x2048x32, .f32⟩
  | 123 => ⟨S8x2048x1x32, .f32⟩
  | 124 => ⟨S8x2048x8x32, .f32⟩
  | 125 => ⟨S8x2048x8x32, .f32⟩
  | 126 => ⟨S_, .f32⟩
  | 127 => ⟨S8x2048x8, .f32⟩
  | _ => ⟨S8x2048x128, .f32⟩

abbrev hbmTy0_1 (i : Nat) : BufTy := match i % 128 with
  | 0 => ⟨S8x2048x8x1, .f32⟩
  | 1 => ⟨S_, .f32⟩
  | 2 => ⟨S8x2048x8x1, .f32⟩
  | 3 => ⟨S8x2048x8x1, .f32⟩
  | 4 => ⟨S8x2048x8x32, .f32⟩
  | 5 => ⟨S8x2048x8x32, .f32⟩
  | 6 => ⟨S8x2048x128, .f32⟩
  | 7 => ⟨S1x1x128, .f32⟩
  | 8 => ⟨S8x2048x128, .f32⟩
  | 9 => ⟨S8x2048x128, .f32⟩
  | 10 => ⟨S8x2048x8x16x1, .f32⟩
  | 11 => ⟨S8x2048x8x1x32, .f32⟩
  | 12 => ⟨S8x2048x8x16x32, .f32⟩
  | 13 => ⟨S8x2048x8x16x32, .f32⟩
  | 14 => ⟨S8x2048x8x16x32, .f32⟩
  | 15 => ⟨S_, .f32⟩
  | 16 => ⟨S8x2048x8x16, .f32⟩
  | 17 => ⟨S8x2048x128, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S_, .i32⟩
  | 25 => ⟨S_, .f32⟩
  | 26 => ⟨S8x2048, .f32⟩
  | 27 => ⟨S8x2048x1, .f32⟩
  | 28 => ⟨S_, .f32⟩
  | 29 => ⟨S8x2048x1, .f32⟩
  | 30 => ⟨S8x2048x1, .f32⟩
  | 31 => ⟨S8x2048x128, .f32⟩
  | 32 => ⟨S8x2048x128, .f32⟩
  | 33 => ⟨S8x2048x128, .f32⟩
  | 34 => ⟨S_, .f32⟩
  | 35 => ⟨S_, .f32⟩
  | 36 => ⟨S_, .f32⟩
  | 37 => ⟨S_, .f32⟩
  | 38 => ⟨S8x2048, .f32⟩
  | 39 => ⟨S8x2048x1, .f32⟩
  | 40 => ⟨S8x2048x1, .f32⟩
  | 41 => ⟨S8x2048x1, .f32⟩
  | 42 => ⟨S_, .f32⟩
  | 43 => ⟨S_, .i1⟩
  | 44 => ⟨S_, .f32⟩
  | 45 => ⟨S_, .f32⟩
  | 46 => ⟨S8x2048x1, .f32⟩
  | 47 => ⟨S8x2048x1, .f32⟩
  | 48 => ⟨S8x2048x128, .f32⟩
  | 49 => ⟨S8x2048x128, .f32⟩
  | 50 => ⟨S_, .f32⟩
  | 51 => ⟨S8x2048x1, .f32⟩
  | 52 => ⟨S8x2048x1, .f32⟩
  | 53 => ⟨S8x2048x1, .f32⟩
  | 54 => ⟨S8x2048x128, .f32⟩
  | 55 => ⟨S8x2048x128, .f32⟩
  | 56 => ⟨S1x1x128, .f32⟩
  | 57 => ⟨S8x2048x128, .f32⟩
  | 58 => ⟨S8x2048x128, .f32⟩
  | 59 => ⟨S1x1x128, .f32⟩
  | 60 => ⟨S8x2048x128, .f32⟩
  | 61 => ⟨S8x2048x128, .f32⟩
  | 62 => ⟨S8x2048x512, .f32⟩
  | 63 => ⟨S8x2048x512, .f32⟩
  | 64 => ⟨S8x2048x512, .f32⟩
  | 65 => ⟨S_, .f32⟩
  | 66 => ⟨S8x2048x512, .f32⟩
  | 67 => ⟨S8x2048x512, .f32⟩
  | 68 => ⟨S_, .f32⟩
  | 69 => ⟨S8x2048x512, .f32⟩
  | 70 => ⟨S8x2048x512, .f32⟩
  | 71 => ⟨S8x2048x512, .f32⟩
  | 72 => ⟨S8x2048x512, .f32⟩
  | 73 => ⟨S8x2048x512, .f32⟩
  | 74 => ⟨S8x2048x128, .f32⟩
  | 75 => ⟨S8x2048x128, .f32⟩
  | _ => ⟨S8x2048x128, .f32⟩

abbrev hbmTy (i : Nat) : BufTy := match i / 128 with
  | 0 => hbmTy0_0 i
  | 1 => hbmTy0_1 i
  | _ => ⟨S8x2048x128, .f32⟩

abbrev bufTy : (tb : Table) → Fin (tcTables nBuf tb) → BufTy
  | .hbm, ⟨i, _⟩ => hbmTy i
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_values : Ref sig .tc := ⟨.hbm, 32, rfl⟩
abbrev main_indices : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_cst : Ref sig .tc := ⟨.hbm, 53, rfl⟩
abbrev main_call0_v14 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_call1_v0 : Ref sig .tc := ⟨.hbm, 63, rfl⟩
abbrev main_call1_cst : Ref sig .tc := ⟨.hbm, 64, rfl⟩
abbrev main_call1_c : Ref sig .tc := ⟨.hbm, 65, rfl⟩
abbrev main_call1_v1_0 : Ref sig .tc := ⟨.hbm, 66, rfl⟩
abbrev main_v22 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_cst_2 : Ref sig .tc := ⟨.hbm, 96, rfl⟩
abbrev main_v29 : Ref sig .tc := ⟨.hbm, 97, rfl⟩
abbrev main_cst_3 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_cst_4 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_c : Ref sig .tc := ⟨.hbm, 111, rfl⟩
abbrev main_v41 : Ref sig .tc := ⟨.hbm, 112, rfl⟩
abbrev main_v42 : Ref sig .tc := ⟨.hbm, 113, rfl⟩
abbrev main_c_5 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_cst_6 : Ref sig .tc := ⟨.hbm, 126, rfl⟩
abbrev main_v54 : Ref sig .tc := ⟨.hbm, 127, rfl⟩
abbrev main_v55 : Ref sig .tc := ⟨.hbm, 128, rfl⟩
abbrev main_cst_7 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_cst_8 : Ref sig .tc := ⟨.hbm, 143, rfl⟩
abbrev main_v69 : Ref sig .tc := ⟨.hbm, 144, rfl⟩
abbrev main_v70 : Ref sig .tc := ⟨.hbm, 145, rfl⟩
abbrev main_cst_9 : Ref sig .tc := ⟨.hbm, 146, rfl⟩
abbrev main_v71 : Ref sig .tc := ⟨.hbm, 147, rfl⟩
abbrev main_v72 : Ref sig .tc := ⟨.hbm, 148, rfl⟩
abbrev main_cst_10 : Ref sig .tc := ⟨.hbm, 149, rfl⟩
abbrev main_v73 : Ref sig .tc := ⟨.hbm, 150, rfl⟩
abbrev main_v74 : Ref sig .tc := ⟨.hbm, 151, rfl⟩
abbrev main_c_11 : Ref sig .tc := ⟨.hbm, 152, rfl⟩
abbrev main_call3_cst : Ref sig .tc := ⟨.hbm, 153, rfl⟩
abbrev main_call3_v0 : Ref sig .tc := ⟨.hbm, 154, rfl⟩
abbrev main_call3_v1 : Ref sig .tc := ⟨.hbm, 155, rfl⟩
abbrev main_call3_cst_0 : Ref sig .tc := ⟨.hbm, 156, rfl⟩
abbrev main_call3_v2 : Ref sig .tc := ⟨.hbm, 157, rfl⟩
abbrev main_call3_v3 : Ref sig .tc := ⟨.hbm, 158, rfl⟩
abbrev main_call3_v4 : Ref sig .tc := ⟨.hbm, 159, rfl⟩
abbrev main_call3_v5 : Ref sig .tc := ⟨.hbm, 160, rfl⟩
abbrev main_call3_v6 : Ref sig .tc := ⟨.hbm, 161, rfl⟩
abbrev main_call3_v7 : Ref sig .tc := ⟨.hbm, 162, rfl⟩
abbrev main_call3_cst_1 : Ref sig .tc := ⟨.hbm, 163, rfl⟩
abbrev main_call3_v8 : Ref sig .tc := ⟨.hbm, 164, rfl⟩
abbrev main_call3_cst_2 : Ref sig .tc := ⟨.hbm, 165, rfl⟩
abbrev main_call3_v9 : Ref sig .tc := ⟨.hbm, 166, rfl⟩
abbrev main_call3_v10 : Ref sig .tc := ⟨.hbm, 167, rfl⟩
abbrev main_call3_v11 : Ref sig .tc := ⟨.hbm, 168, rfl⟩
abbrev main_call3_v12 : Ref sig .tc := ⟨.hbm, 169, rfl⟩
abbrev main_call3_cst_3 : Ref sig .tc := ⟨.hbm, 170, rfl⟩
abbrev main_call3_v13 : Ref sig .tc := ⟨.hbm, 171, rfl⟩
abbrev main_call3_cst_4 : Ref sig .tc := ⟨.hbm, 172, rfl⟩
abbrev main_call3_call0_v0 : Ref sig .tc := ⟨.hbm, 173, rfl⟩
abbrev main_call3_call0_v1 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_cst_12 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_call4_v0 : Ref sig .tc := ⟨.hbm, 191, rfl⟩
abbrev main_call4_v1 : Ref sig .tc := ⟨.hbm, 192, rfl⟩
abbrev main_call4_cst : Ref sig .tc := ⟨.hbm, 193, rfl⟩
abbrev main_call4_v2 : Ref sig .tc := ⟨.hbm, 194, rfl⟩
abbrev main_call4_v3 : Ref sig .tc := ⟨.hbm, 195, rfl⟩
abbrev main_call4_cst_0 : Ref sig .tc := ⟨.hbm, 196, rfl⟩
abbrev main_call4_v4 : Ref sig .tc := ⟨.hbm, 197, rfl⟩
abbrev main_call4_v5 : Ref sig .tc := ⟨.hbm, 198, rfl⟩
abbrev main_v90 : Ref sig .tc := ⟨.hbm, 199, rfl⟩
abbrev main_v91 : Ref sig .tc := ⟨.hbm, 200, rfl⟩
abbrev main_v92 : Ref sig .tc := ⟨.hbm, 201, rfl⟩
abbrev main_v93 : Ref sig .tc := ⟨.hbm, 202, rfl⟩
abbrev main_v94 : Ref sig .tc := ⟨.hbm, 203, rfl⟩

abbrev nD : Nat := 1
abbrev τ : Topo := Topo.v7x

variable {F : FTy → Type} [FloatOps F]
-- ==== Proof.RefLine.lean ====
/-
  The reference as a line of host operations, cut into nine stages: each callee's operations as a list over its
  references, each stage as a list of its own, and the buffers that each stage writes. `main_eq` says that the
  program is the line of the stages; `run` runs it: the memory ends at what the line leaves of the launch contents.
-/
module

public import proofs.«01_k».proof.Proof.Gen.ReferenceIdeal
public import Idealize.ShloMosaic.Lib.StableHlo.RunHlo
public import Idealize.ShloMosaic.Lib.StableHlo.RunRead
public import Idealize.ShloMosaic.Lib.Pipeline.Frame

@[expose] public section

set_option maxRecDepth 8192

noncomputable section

namespace Cert.RefLine

open Cert.ReferenceIdeal Cert.ReferenceIdeal.Gen Idealize.ShloMosaic Idealize.ShloMosaic.TcCoe Idealize.SL.Sem
  Idealize.ShloMosaic.StableHlo

variable {F : FTy → Type} [FloatOps F]

/-- The operations of `take_along_axis`: read the chosen columns, filling out-of-range ones. -/
abbrev takeAlongOps (arg0 : TRef sig ⟨S8x2048x2048, .f32⟩) (arg1 : TRef sig ⟨S8x2048x32, .i32⟩) (φ : fn_take_along_axis.Bufs) : List (HloOp τ sig (Elt F)) :=
  [TRef.nullary φ.c (constantI S_ 32 0#32),
    TRef.unary φ.c φ.v0 (broadcastInDim S8x2048x32 ![] bcast_S_S8x2048x32),
    TRef.binary arg1 φ.v0 φ.v1 (cmpi .slt),
    TRef.nullary φ.c_0 (constantI S_ 32 2048#32),
    TRef.unary φ.c_0 φ.v2 (broadcastInDim S8x2048x32 ![] bcast_S_S8x2048x32),
    TRef.binary arg1 φ.v2 φ.v3 addi,
    TRef.ternary φ.v1 φ.v3 arg1 φ.v4 select,
    TRef.reshape φ.v4 φ.v5 (rfl : (.i32 : EltTy) = .i32) shapeCasts_S8x2048x32_S8x2048x32x1,
    TRef.nullary φ.c_1 (constantI S1 32 2047#32),
    TRef.nullary φ.c_2 (constantI S_ 32 0#32),
    TRef.unary φ.c_2 φ.v6 (broadcastInDim S8x2048x32x1 ![] bcast_S_S8x2048x32x1),
    TRef.binary φ.v5 φ.v6 φ.v7 (cmpi .sge),
    TRef.unary φ.c_1 φ.v8 (broadcastInDim S1x1x1x1 ![3] bcast_S1_S1x1x1x1_3),
    TRef.unary φ.v8 φ.v9 (broadcastInDim S8x2048x32x1 ![0, 1, 2, 3] bcast_S1x1x1x1_S8x2048x32x1_0_1_2_3),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S8x2048x32x1_S8x2048x32_d3 h_S_),
    TRef.binary arg0 φ.v5 φ.v13 (fun x i => Host.gather gather_S8x2048x2048_S8x2048x32x1_S8x2048x32_n_2_01_01_2_3_111 x i),
    TRef.nullary φ.cst (constant S_ .f32 0x7FC00000#32),
    TRef.unary φ.cst φ.v14 (broadcastInDim S8x2048x32 ![] bcast_S_S8x2048x32),
    TRef.ternary φ.v12 φ.v13 φ.v14 φ.v15 select]

/-- The operations of `argmin` along the last axis. -/
abbrev argminOps (arg0 : TRef sig ⟨S8x2048x32x128, .f32⟩) (φ : fn_argmin.Bufs) : List (HloOp τ sig (Elt F)) :=
  [TRef.nullary φ.v0 (iotaInDim S8x2048x32x128 32 3),
    TRef.nullary φ.cst (constant S_ .f32 0x7F800000#32),
    TRef.nullary φ.c (constantI S_ 32 0#32),
    TRef.quaternary arg0 φ.v0 φ.cst φ.c φ.v1_0 (fun x y u v j => (Host.argReduce reducer_argmin_f32_i32 x y u v reducesTo_S8x2048x32x128_S8x2048x32_d3 h_S_ j).1),
    TRef.quaternary arg0 φ.v0 φ.cst φ.c φ.v1_1 (fun x y u v j => (Host.argReduce reducer_argmin_f32_i32 x y u v reducesTo_S8x2048x32x128_S8x2048x32_d3 h_S_ j).2)]

/-- The one operation of the index `where`. -/
abbrev whereOps (arg0 : TRef sig ⟨S8x2048x32, .i1⟩) (arg1 : TRef sig ⟨S8x2048x32, .i32⟩) (arg2 : TRef sig ⟨S8x2048x32, .i32⟩) (φ : fn_where.Bufs) : List (HloOp τ sig (Elt F)) :=
  [TRef.ternary arg0 arg1 arg2 φ.v0 select]

/-- The operations of `take` along the rows of a table, filling out-of-range ones. -/
abbrev takeOps (arg0 : TRef sig ⟨S128x128, .f32⟩) (arg1 : TRef sig ⟨S8x2048x32, .i32⟩) (φ : fn_take.Bufs) : List (HloOp τ sig (Elt F)) :=
  [TRef.nullary φ.c (constantI S_ 32 0#32),
    TRef.unary φ.c φ.v0 (broadcastInDim S8x2048x32 ![] bcast_S_S8x2048x32),
    TRef.binary arg1 φ.v0 φ.v1 (cmpi .slt),
    TRef.nullary φ.c_0 (constantI S_ 32 128#32),
    TRef.unary φ.c_0 φ.v2 (broadcastInDim S8x2048x32 ![] bcast_S_S8x2048x32),
    TRef.binary arg1 φ.v2 φ.v3 addi] ++
   whereOps φ.v1 φ.v3 arg1 φ.call0 ++
   [TRef.unary φ.call0.v0 φ.v5 (broadcastInDim S8x2048x32x1 ![0, 1, 2] bcast_S8x2048x32_S8x2048x32x1_0_1_2),
    TRef.nullary φ.c_1 (constantI S1 32 127#32),
    TRef.nullary φ.c_2 (constantI S_ 32 0#32),
    TRef.unary φ.c_2 φ.v6 (broadcastInDim S8x2048x32x1 ![] bcast_S_S8x2048x32x1),
    TRef.binary φ.v5 φ.v6 φ.v7 (cmpi .sge),
    TRef.unary φ.c_1 φ.v8 (broadcastInDim S1x1x1x1 ![3] bcast_S1_S1x1x1x1_3),
    TRef.unary φ.v8 φ.v9 (broadcastInDim S8x2048x32x1 ![0, 1, 2, 3] bcast_S1x1x1x1_S8x2048x32x1_0_1_2_3),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S8x2048x32x1_S8x2048x32_d3 h_S_),
    TRef.binary arg0 φ.v5 φ.v13 (fun x i => Host.gather gather_S128x128_S8x2048x32x1_S8x2048x32x128_3_0_n_n_0_3_1128 x i),
    TRef.unary φ.v12 φ.v14 (broadcastInDim S8x2048x32x128 ![0, 1, 2] bcast_S8x2048x32_S8x2048x32x128_0_1_2),
    TRef.nullary φ.cst (constant S_ .f32 0x7FC00000#32),
    TRef.unary φ.cst φ.v15 (broadcastInDim S8x2048x32x128 ![] bcast_S_S8x2048x32x128),
    TRef.ternary φ.v14 φ.v13 φ.v15 φ.v16 select]

/-- The operations of the `where` that guards the variance. -/
abbrev where0Ops (arg0 : TRef sig ⟨S_, .i1⟩) (arg1 : TRef sig ⟨S8x2048x1, .f32⟩) (arg2 : TRef sig ⟨S_, .f32⟩) (φ : fn_where_0.Bufs) : List (HloOp τ sig (Elt F)) :=
  [TRef.unary arg2 φ.v0 id,
    TRef.unary φ.v0 φ.v1 (broadcastInDim S8x2048x1 ![] bcast_S_S8x2048x1),
    TRef.ternary arg0 arg1 φ.v1 φ.v2 (fun p a b => select (broadcastInDim S8x2048x1 ![] bcast_S_S8x2048x1 p) a b)]

/-- The operations of `var` over the last axis. -/
abbrev varOps (arg0 : TRef sig ⟨S8x2048x128, .f32⟩) (arg1 : TRef sig ⟨S_, .i32⟩) (φ : fn_var.Bufs) : List (HloOp τ sig (Elt F)) :=
  [TRef.nullary φ.cst (constant S_ .f32 0x00000000#32),
    TRef.binary arg0 φ.cst φ.v0 (fun x v => Host.reduceAdd x v reducesTo_S8x2048x128_S8x2048_d2 h_S_),
    TRef.unary φ.v0 φ.v1 (broadcastInDim S8x2048x1 ![0, 1] bcast_S8x2048_S8x2048x1_0_1),
    TRef.nullary φ.cst_0 (constant S_ .f32 0x43000000#32),
    TRef.unary φ.cst_0 φ.v2 (broadcastInDim S8x2048x1 ![] bcast_S_S8x2048x1),
    TRef.binary φ.v1 φ.v2 φ.v3 Host.divf,
    TRef.unary φ.v3 φ.v4 (broadcastInDim S8x2048x128 ![0, 1, 2] bcast_S8x2048x1_S8x2048x128_0_1_2),
    TRef.binary arg0 φ.v4 φ.v5 subf,
    TRef.binary φ.v5 φ.v5 φ.v6 mulf,
    TRef.unary arg1 φ.v7 (sitofp .f32),
    TRef.nullary φ.cst_1 (constant S_ .f32 0x43000000#32),
    TRef.binary φ.cst_1 φ.v7 φ.v8 subf,
    TRef.nullary φ.cst_2 (constant S_ .f32 0x00000000#32),
    TRef.binary φ.v6 φ.cst_2 φ.v9 (fun x v => Host.reduceAdd x v reducesTo_S8x2048x128_S8x2048_d2 h_S_),
    TRef.unary φ.v9 φ.v10 (broadcastInDim S8x2048x1 ![0, 1] bcast_S8x2048_S8x2048x1_0_1),
    TRef.unary φ.v8 φ.v11 (broadcastInDim S8x2048x1 ![] bcast_S_S8x2048x1),
    TRef.binary φ.v10 φ.v11 φ.v12 Host.divf,
    TRef.nullary φ.cst_3 (constant S_ .f32 0x00000000#32),
    TRef.binary φ.v8 φ.cst_3 φ.v13 (cmpf .ogt),
    TRef.nullary φ.cst_4 (constant S_ .f32 0x7FC00000#32)] ++
   where0Ops φ.v13 φ.v12 φ.cst_4 φ.call0

/-- The operations of `silu`. -/
abbrev siluOps (arg0 : TRef sig ⟨S8x2048x512, .f32⟩) (φ : fn_silu.Bufs) : List (HloOp τ sig (Elt F)) :=
  [TRef.unary arg0 φ.v0 Host.negf,
    TRef.unary φ.v0 φ.v1 Host.exp,
    TRef.nullary φ.cst (constant S_ .f32 0x3F800000#32),
    TRef.unary φ.cst φ.v2 (broadcastInDim S8x2048x512 ![] bcast_S_S8x2048x512),
    TRef.binary φ.v2 φ.v1 φ.v3 addf,
    TRef.nullary φ.cst_0 (constant S_ .f32 0x3F800000#32),
    TRef.unary φ.cst_0 φ.v4 (broadcastInDim S8x2048x512 ![] bcast_S_S8x2048x512),
    TRef.binary φ.v4 φ.v3 φ.v5 Host.divf,
    TRef.binary arg0 φ.v5 φ.v6 mulf]

/-- The squared distances, the nearest neighbours and the gaps to the distance bins. -/
abbrev distOps : List (HloOp τ sig (Elt F)) :=
  [binary main_arg2 main_arg2 main_v0 (mulf : (⟨S8x2048x3, .f32⟩ : BufTy).Contents (Elt F) → (⟨S8x2048x3, .f32⟩ : BufTy).Contents (Elt F) → (⟨S8x2048x3, .f32⟩ : BufTy).Contents (Elt F)),
    nullary main_cst (constant S_ .f32 0x00000000#32),
    binary main_v0 main_cst main_v1 ((fun x v => Host.reduceAdd x v reducesTo_S8x2048x3_S8x2048_d2 h_S_) : (⟨S8x2048x3, .f32⟩ : BufTy).Contents (Elt F) → (⟨S_, .f32⟩ : BufTy).Contents (Elt F) → (⟨S8x2048, .f32⟩ : BufTy).Contents (Elt F)),
    unary main_v1 main_v2 (broadcastInDim S8x2048x1 ![0, 1] bcast_S8x2048_S8x2048x1_0_1 : (⟨S8x2048, .f32⟩ : BufTy).Contents (Elt F) → (⟨S8x2048x1, .f32⟩ : BufTy).Contents (Elt F)),
    unary main_v1 main_v3 (broadcastInDim S8x1x2048 ![0, 2] bcast_S8x2048_S8x1x2048_0_2 : (⟨S8x2048, .f32⟩ : BufTy).Contents (Elt F) → (⟨S8x1x2048, .f32⟩ : BufTy).Contents (Elt F)),
    unary main_v2 main_v4 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    unary main_v3 main_v5 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    binary main_v4 main_v5 main_v6 (addf : (⟨S8x2048x2048, .f32⟩ : BufTy).Contents (Elt F) → (⟨S8x2048x2048, .f32⟩ : BufTy).Contents (Elt F) → (⟨S8x2048x2048, .f32⟩ : BufTy).Contents (Elt F)),
    binary main_arg2 main_arg2 main_v7 ((fun l r => Host.dotGeneral dot_S8x2048x3_S8x2048x3_S8x2048x2048_2_2_1_1_0_0 none l r) : (⟨S8x2048x3, .f32⟩ : BufTy).Contents (Elt F) → (⟨S8x2048x3, .f32⟩ : BufTy).Contents (Elt F) → (⟨S8x2048x2048, .f32⟩ : BufTy).Contents (Elt F)),
    nullary main_cst_0 (constant S_ .f32 0x40000000#32),
    unary main_cst_0 main_v8 (broadcastInDim S8x2048x2048 ![] bcast_S_S8x2048x2048 : (⟨S_, .f32⟩ : BufTy).Contents (Elt F) → (⟨S8x2048x2048, .f32⟩ : BufTy).Contents (Elt F)),
    binary main_v8 main_v7 main_v9 (mulf : (⟨S8x2048x2048, .f32⟩ : BufTy).Contents (Elt F) → (⟨S8x2048x2048, .f32⟩ : BufTy).Contents (Elt F) → (⟨S8x2048x2048, .f32⟩ : BufTy).Contents (Elt F)),
    binary main_v6 main_v9 main_v10 (subf : (⟨S8x2048x2048, .f32⟩ : BufTy).Contents (Elt F) → (⟨S8x2048x2048, .f32⟩ : BufTy).Contents (Elt F) → (⟨S8x2048x2048, .f32⟩ : BufTy).Contents (Elt F)),
    nullary main_cst_1 (constant S_ .f32 0x00000000#32),
    unary main_cst_1 main_v11 (broadcastInDim S8x2048x2048 ![] bcast_S_S8x2048x2048 : (⟨S_, .f32⟩ : BufTy).Contents (Elt F) → (⟨S8x2048x2048, .f32⟩ : BufTy).Contents (Elt F)),
    binary main_v10 main_v11 main_v12 (maximumf : (⟨S8x2048x2048, .f32⟩ : BufTy).Contents (Elt F) → (⟨S8x2048x2048, .f32⟩ : BufTy).Contents (Elt F) → (⟨S8x2048x2048, .f32⟩ : BufTy).Contents (Elt F)),
    unary main_v12 main_v13 (Host.negf : (⟨S8x2048x2048, .f32⟩ : BufTy).Contents (Elt F) → (⟨S8x2048x2048, .f32⟩ : BufTy).Contents (Elt F)),
    unary main_v13 main_values ((fun x => (Host.topK S8x2048x32 2 (FloatOps.cmpfTotal .gt) x sliceFits_S8x2048x2048_S8x2048x32).1) : (⟨S8x2048x2048, .f32⟩ : BufTy).Contents (Elt F) → (⟨S8x2048x32, .f32⟩ : BufTy).Contents (Elt F)),
    unary main_v13 main_indices ((fun x => (Host.topK S8x2048x32 2 (FloatOps.cmpfTotal .gt) x sliceFits_S8x2048x2048_S8x2048x32).2) : (⟨S8x2048x2048, .f32⟩ : BufTy).Contents (Elt F) → (⟨S8x2048x32, .i32⟩ : BufTy).Contents (Elt F))] ++
   takeAlongOps (.of main_v12) (.of main_indices) main_call0 ++
   [unary main_v14 main_v15 (Host.sqrt : (⟨S8x2048x32, .f32⟩ : BufTy).Contents (Elt F) → (⟨S8x2048x32, .f32⟩ : BufTy).Contents (Elt F)),
    unary main_v15 main_v16 (broadcastInDim S8x2048x32x1 ![0, 1, 2] bcast_S8x2048x32_S8x2048x32x1_0_1_2 : (⟨S8x2048x32, .f32⟩ : BufTy).Contents (Elt F) → (⟨S8x2048x32x1, .f32⟩ : BufTy).Contents (Elt F)),
    unary main_arg14 main_v17 (broadcastInDim S1x1x1x128 ![3] bcast_S128_S1x1x1x128_3 : (⟨S128, .f32⟩ : BufTy).Contents (Elt F) → (⟨S1x1x1x128, .f32⟩ : BufTy).Contents (Elt F)),
    unary main_v16 main_v18 (broadcastInDim S8x2048x32x128 ![0, 1, 2, 3] bcast_S8x2048x32x1_S8x2048x32x128_0_1_2_3 : (⟨S8x2048x32x1, .f32⟩ : BufTy).Contents (Elt F) → (⟨S8x2048x32x128, .f32⟩ : BufTy).Contents (Elt F)),
    unary main_v17 main_v19 (broadcastInDim S8x2048x32x128 ![0, 1, 2, 3] bcast_S1x1x1x128_S8x2048x32x128_0_1_2_3 : (⟨S1x1x1x128, .f32⟩ : BufTy).Contents (Elt F) → (⟨S8x2048x32x128, .f32⟩ : BufTy).Contents (Elt F)),
    binary main_v18 main_v19 main_v20 (subf : (⟨S8x2048x32x128, .f32⟩ : BufTy).Contents (Elt F) → (⟨S8x2048x32x128, .f32⟩ : BufTy).Contents (Elt F) → (⟨S8x2048x32x128, .f32⟩ : BufTy).Contents (Elt F)),
    unary main_v20 main_v21 (Host.absf : (⟨S8x2048x32x128, .f32⟩ : BufTy).Contents (Elt F) → (⟨S8x2048x32x128, .f32⟩ : BufTy).Contents (Elt F))]

/-- The buffers that the stage `dist` writes. -/
abbrev distWrites : List (Ref sig .tc) :=
  [main_v0, main_cst, main_v1, main_v2, main_v3, main_v4, main_v5, main_v6, main_v7, main_cst_0, main_v8,
   main_v9, main_v10, main_cst_1, main_v11, main_v12, main_v13, main_values, main_indices, main_call0_c,
   main_call0_v0, main_call0_v1, main_call0_c_0, main_call0_v2, main_call0_v3, main_call0_v4, main_call0_v5,
   main_call0_c_1, main_call0_c_2, main_call0_v6, main_call0_v7, main_call0_v8, main_call0_v9, main_call0_v10,
   main_call0_v11, main_call0_c_3, main_call0_v12, main_call0_v13, main_call0_cst, main_call0_v14, main_v14,
   main_v15, main_v16, main_v17, main_v18, main_v19, main_v20, main_v21]

/-- The nearest bin of each neighbour distance. -/
abbrev nearestOps : List (HloOp τ sig (Elt F)) :=
  argminOps (.of main_v21) main_call1

/-- The buffers that the stage `nearest` writes. -/
abbrev nearestWrites : List (Ref sig .tc) :=
  [main_call1_v0, main_call1_cst, main_call1_c, main_call1_v1_0, main_v22]

/-- The table row of each nearest bin. -/
abbrev rowOps : List (HloOp τ sig (Elt F)) :=
  takeOps (.of main_arg6) (.of main_v22) main_call2

/-- The buffers that the stage `row` writes. -/
abbrev rowWrites : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14,
   main_call2_cst, main_call2_v15, main_v23]

/-- The affinities of each neighbour and their softmax over the neighbours. -/
abbrev softmaxOps : List (HloOp τ sig (Elt F)) :=
  [binary main_v23 main_arg7 main_v24 ((fun l r => Host.dotGeneral dot_S8x2048x32x128_S128x8_S8x2048x32x8_3_0_012_1_n_n none l r) : (⟨S8x2048x32x128, .f32⟩ : BufTy).Contents (Elt F) → (⟨S128x8, .f32⟩ : BufTy).Contents (Elt F) → (⟨S8x2048x32x8, .f32⟩ : BufTy).Contents (Elt F)),
    unary main_arg8 main_v25 (broadcastInDim S1x1x1x8 ![3] bcast_S8_S1x1x1x8_3 : (⟨S8, .f32⟩ : BufTy).Contents (Elt F) → (⟨S1x1x1x8, .f32⟩ : BufTy).Contents (Elt F)),
    unary main_v25 main_v26 (broadcastInDim S8x2048x32x8 ![0, 1, 2, 3] bcast_S1x1x1x8_S8x2048x32x8_0_1_2_3 : (⟨S1x1x1x8, .f32⟩ : BufTy).Contents (Elt F) → (⟨S8x2048x32x8, .f32⟩ : BufTy).Contents (Elt F)),
    binary main_v24 main_v26 main_v27 (addf : (⟨S8x2048x32x8, .f32⟩ : BufTy).Contents (Elt F) → (⟨S8x2048x32x8, .f32⟩ : BufTy).Contents (Elt F) → (⟨S8x2048x32x8, .f32⟩ : BufTy).Contents (Elt F)),
    reshape main_v27 main_v28 (rfl : (.f32 : EltTy) = .f32) shapeCasts_S8x2048x32x8_S8x2048x8x32,
    nullary main_cst_2 (constant S_ .f32 0xFF800000#32),
    binary main_v28 main_cst_2 main_v29 ((fun x v => Host.reduce FloatOps.maximumf x v reducesTo_S8x2048x8x32_S8x2048x8_d3 h_S_) : (⟨S8x2048x8x32, .f32⟩ : BufTy).Contents (Elt F) → (⟨S_, .f32⟩ : BufTy).Contents (Elt F) → (⟨S8x2048x8, .f32⟩ : BufTy).Contents (Elt F)),
    nullary main_cst_3 (constant S_ .f32 0xFF800000#32),
    unary main_cst_3 main_v30 (broadcastInDim S8x2048x8 ![] bcast_S_S8x2048x8 : (⟨S_, .f32⟩ : BufTy).Contents (Elt F) → (⟨S8x2048x8, .f32⟩ : BufTy).Contents (Elt F)),
    binary main_v30 main_v29 main_v31 (maximumf : (⟨S8x2048x8, .f32⟩ : BufTy).Contents (Elt F) → (⟨S8x2048x8, .f32⟩ : BufTy).Contents (Elt F) → (⟨S8x2048x8, .f32⟩ : BufTy).Contents (Elt F)),
    unary main_v31 main_v32 (broadcastInDim S8x2048x8x1 ![0, 1, 2] bcast_S8x2048x8_S8x2048x8x1_0_1_2 : (⟨S8x2048x8, .f32⟩ : BufTy).Contents (Elt F) → (⟨S8x2048x8x1, .f32⟩ : BufTy).Contents (Elt F)),
    unary main_v32 main_v33 (broadcastInDim S8x2048x8x32 ![0, 1, 2, 3] bcast_S8x2048x8x1_S8x2048x8x32_0_1_2_3 : (⟨S8x2048x8x1, .f32⟩ : BufTy).Contents (Elt F) → (⟨S8x2048x8x32, .f32⟩ : BufTy).Contents (Elt F)),
    binary main_v28 main_v33 main_v34 (subf : (⟨S8x2048x8x32, .f32⟩ : BufTy).Contents (Elt F) → (⟨S8x2048x8x32, .f32⟩ : BufTy).Contents (Elt F) → (⟨S8x2048x8x32, .f32⟩ : BufTy).Contents (Elt F)),
    unary main_v34 main_v35 (Host.exp : (⟨S8x2048x8x32, .f32⟩ : BufTy).Contents (Elt F) → (⟨S8x2048x8x32, .f32⟩ : BufTy).Contents (Elt F)),
    nullary main_cst_4 (constant S_ .f32 0x00000000#32),
    binary main_v35 main_cst_4 main_v36 ((fun x v => Host.reduceAdd x v reducesTo_S8x2048x8x32_S8x2048x8_d3 h_S_) : (⟨S8x2048x8x32, .f32⟩ : BufTy).Contents (Elt F) → (⟨S_, .f32⟩ : BufTy).Contents (Elt F) → (⟨S8x2048x8, .f32⟩ : BufTy).Contents (Elt F)),
    unary main_v36 main_v37 (broadcastInDim S8x2048x8x1 ![0, 1, 2] bcast_S8x2048x8_S8x2048x8x1_0_1_2 : (⟨S8x2048x8, .f32⟩ : BufTy).Contents (Elt F) → (⟨S8x2048x8x1, .f32⟩ : BufTy).Contents (Elt F)),
    unary main_v37 main_v38 (broadcastInDim S8x2048x8x32 ![0, 1, 2, 3] bcast_S8x2048x8x1_S8x2048x8x32_0_1_2_3 : (⟨S8x2048x8x1, .f32⟩ : BufTy).Contents (Elt F) → (⟨S8x2048x8x32, .f32⟩ : BufTy).Contents (Elt F)),
    binary main_v35 main_v38 main_v39 (Host.divf : (⟨S8x2048x8x32, .f32⟩ : BufTy).Contents (Elt F) → (⟨S8x2048x8x32, .f32⟩ : BufTy).Contents (Elt F) → (⟨S8x2048x8x32, .f32⟩ : BufTy).Contents (Elt F))]

/-- The buffers that the stage `softmax` writes. -/
abbrev softmaxWrites : List (Ref sig .tc) :=
  [main_v24, main_v25, main_v26, main_v27, main_v28, main_cst_2, main_v29, main_cst_3, main_v30, main_v31,
   main_v32, main_v33, main_v34, main_v35, main_cst_4, main_v36, main_v37, main_v38, main_v39]

/-- The mask of the neighbours and of the rows. -/
abbrev maskOps : List (HloOp τ sig (Elt F)) :=
  [unary main_arg3 main_v40 (uitofp .f32 : (⟨S8x2048, .i1⟩ : BufTy).Contents (Elt F) → (⟨S8x2048, .f32⟩ : BufTy).Contents (Elt F)),
    nullary main_c (constantI S_ 32 0#32),
    unary main_c main_v41 (broadcastInDim S8x2048x32 ![] bcast_S_S8x2048x32 : (⟨S_, .i32⟩ : BufTy).Contents (Elt F) → (⟨S8x2048x32, .i32⟩ : BufTy).Contents (Elt F)),
    binary main_indices main_v41 main_v42 (cmpi .slt : (⟨S8x2048x32, .i32⟩ : BufTy).Contents (Elt F) → (⟨S8x2048x32, .i32⟩ : BufTy).Contents (Elt F) → (⟨S8x2048x32, .i1⟩ : BufTy).Contents (Elt F)),
    nullary main_c_5 (constantI S_ 32 2048#32),
    unary main_c_5 main_v43 (broadcastInDim S8x2048x32 ![] bcast_S_S8x2048x32 : (⟨S_, .i32⟩ : BufTy).Contents (Elt F) → (⟨S8x2048x32, .i32⟩ : BufTy).Contents (Elt F)),
    binary main_indices main_v43 main_v44 (addi : (⟨S8x2048x32, .i32⟩ : BufTy).Contents (Elt F) → (⟨S8x2048x32, .i32⟩ : BufTy).Contents (Elt F) → (⟨S8x2048x32, .i32⟩ : BufTy).Contents (Elt F)),
    ternary main_v42 main_v44 main_indices main_v45 (select : (⟨S8x2048x32, .i1⟩ : BufTy).Contents (Elt F) → (⟨S8x2048x32, .i32⟩ : BufTy).Contents (Elt F) → (⟨S8x2048x32, .i32⟩ : BufTy).Contents (Elt F) → (⟨S8x2048x32, .i32⟩ : BufTy).Contents (Elt F)),
    unary main_v45 main_v46 (broadcastInDim S8x2048x32x1 ![0, 1, 2] bcast_S8x2048x32_S8x2048x32x1_0_1_2 : (⟨S8x2048x32, .i32⟩ : BufTy).Contents (Elt F) → (⟨S8x2048x32x1, .i32⟩ : BufTy).Contents (Elt F)),
    binary main_v40 main_v46 main_v47 ((fun x i => Host.gather gather_S8x2048_S8x2048x32x1_S8x2048x32_n_1_0_0_1_3_11 x i) : (⟨S8x2048, .f32⟩ : BufTy).Contents (Elt F) → (⟨S8x2048x32x1, .i32⟩ : BufTy).Contents (Elt F) → (⟨S8x2048x32, .f32⟩ : BufTy).Contents (Elt F)),
    unary main_v40 main_v48 (broadcastInDim S8x2048x1 ![0, 1] bcast_S8x2048_S8x2048x1_0_1 : (⟨S8x2048, .f32⟩ : BufTy).Contents (Elt F) → (⟨S8x2048x1, .f32⟩ : BufTy).Contents (Elt F)),
    unary main_v48 main_v49 (broadcastInDim S8x2048x32 ![0, 1, 2] bcast_S8x2048x1_S8x2048x32_0_1_2 : (⟨S8x2048x1, .f32⟩ : BufTy).Contents (Elt F) → (⟨S8x2048x32, .f32⟩ : BufTy).Contents (Elt F))]

/-- The buffers that the stage `mask` writes. -/
abbrev maskWrites : List (Ref sig .tc) :=
  [main_v40, main_c, main_v41, main_v42, main_c_5, main_v43, main_v44, main_v45, main_v46, main_v47, main_v48,
   main_v49]

/-- The masked softmax weights, divided by their sum plus a small number. -/
abbrev weightOps : List (HloOp τ sig (Elt F)) :=
  [binary main_v49 main_v47 main_v50 (mulf : (⟨S8x2048x32, .f32⟩ : BufTy).Contents (Elt F) → (⟨S8x2048x32, .f32⟩ : BufTy).Contents (Elt F) → (⟨S8x2048x32, .f32⟩ : BufTy).Contents (Elt F)),
    reshape main_v50 main_v51 (rfl : (.f32 : EltTy) = .f32) shapeCasts_S8x2048x32_S8x2048x1x32,
    unary main_v51 main_v52 (broadcastInDim S8x2048x8x32 ![0, 1, 2, 3] bcast_S8x2048x1x32_S8x2048x8x32_0_1_2_3 : (⟨S8x2048x1x32, .f32⟩ : BufTy).Contents (Elt F) → (⟨S8x2048x8x32, .f32⟩ : BufTy).Contents (Elt F)),
    binary main_v39 main_v52 main_v53 (mulf : (⟨S8x2048x8x32, .f32⟩ : BufTy).Contents (Elt F) → (⟨S8x2048x8x32, .f32⟩ : BufTy).Contents (Elt F) → (⟨S8x2048x8x32, .f32⟩ : BufTy).Contents (Elt F)),
    nullary main_cst_6 (constant S_ .f32 0x00000000#32),
    binary main_v53 main_cst_6 main_v54 ((fun x v => Host.reduceAdd x v reducesTo_S8x2048x8x32_S8x2048x8_d3 h_S_) : (⟨S8x2048x8x32, .f32⟩ : BufTy).Contents (Elt F) → (⟨S_, .f32⟩ : BufTy).Contents (Elt F) → (⟨S8x2048x8, .f32⟩ : BufTy).Contents (Elt F)),
    unary main_v54 main_v55 (broadcastInDim S8x2048x8x1 ![0, 1, 2] bcast_S8x2048x8_S8x2048x8x1_0_1_2 : (⟨S8x2048x8, .f32⟩ : BufTy).Contents (Elt F) → (⟨S8x2048x8x1, .f32⟩ : BufTy).Contents (Elt F)),
    nullary main_cst_7 (constant S_ .f32 0x358637BD#32),
    unary main_cst_7 main_v56 (broadcastInDim S8x2048x8x1 ![] bcast_S_S8x2048x8x1 : (⟨S_, .f32⟩ : BufTy).Contents (Elt F) → (⟨S8x2048x8x1, .f32⟩ : BufTy).Contents (Elt F)),
    binary main_v55 main_v56 main_v57 (addf : (⟨S8x2048x8x1, .f32⟩ : BufTy).Contents (Elt F) → (⟨S8x2048x8x1, .f32⟩ : BufTy).Contents (Elt F) → (⟨S8x2048x8x1, .f32⟩ : BufTy).Contents (Elt F)),
    unary main_v57 main_v58 (broadcastInDim S8x2048x8x32 ![0, 1, 2, 3] bcast_S8x2048x8x1_S8x2048x8x32_0_1_2_3 : (⟨S8x2048x8x1, .f32⟩ : BufTy).Contents (Elt F) → (⟨S8x2048x8x32, .f32⟩ : BufTy).Contents (Elt F)),
    binary main_v53 main_v58 main_v59 (Host.divf : (⟨S8x2048x8x32, .f32⟩ : BufTy).Contents (Elt F) → (⟨S8x2048x8x32, .f32⟩ : BufTy).Contents (Elt F) → (⟨S8x2048x8x32, .f32⟩ : BufTy).Contents (Elt F))]

/-- The buffers that the stage `weight` writes. -/
abbrev weightWrites : List (Ref sig .tc) :=
  [main_v50, main_v51, main_v52, main_v53, main_cst_6, main_v54, main_v55, main_cst_7, main_v56, main_v57,
   main_v58, main_v59]

/-- The value projection, spread over the neighbours and summed with the weights. -/
abbrev valueOps : List (HloOp τ sig (Elt F)) :=
  [binary main_arg0 main_arg4 main_v60 ((fun l r => Host.dotGeneral dot_S8x2048x128_S128x128_S8x2048x128_2_0_01_1_n_n none l r) : (⟨S8x2048x128, .f32⟩ : BufTy).Contents (Elt F) → (⟨S128x128, .f32⟩ : BufTy).Contents (Elt F) → (⟨S8x2048x128, .f32⟩ : BufTy).Contents (Elt F)),
    unary main_arg5 main_v61 (broadcastInDim S1x1x128 ![2] bcast_S128_S1x1x128_2 : (⟨S128, .f32⟩ : BufTy).Contents (Elt F) → (⟨S1x1x128, .f32⟩ : BufTy).Contents (Elt F)),
    unary main_v61 main_v62 (broadcastInDim S8x2048x128 ![0, 1, 2] bcast_S1x1x128_S8x2048x128_0_1_2 : (⟨S1x1x128, .f32⟩ : BufTy).Contents (Elt F) → (⟨S8x2048x128, .f32⟩ : BufTy).Contents (Elt F)),
    binary main_v60 main_v62 main_v63 (addf : (⟨S8x2048x128, .f32⟩ : BufTy).Contents (Elt F) → (⟨S8x2048x128, .f32⟩ : BufTy).Contents (Elt F) → (⟨S8x2048x128, .f32⟩ : BufTy).Contents (Elt F)),
    reshape main_v63 main_v64 (rfl : (.f32 : EltTy) = .f32) shapeCasts_S8x2048x128_S8x2048x8x16x1,
    unary main_v59 main_v65 (broadcastInDim S8x2048x8x1x32 ![0, 1, 2, 4] bcast_S8x2048x8x32_S8x2048x8x1x32_0_1_2_4 : (⟨S8x2048x8x32, .f32⟩ : BufTy).Contents (Elt F) → (⟨S8x2048x8x1x32, .f32⟩ : BufTy).Contents (Elt F)),
    unary main_v65 main_v66 (broadcastInDim S8x2048x8x16x32 ![0, 1, 2, 3, 4] bcast_S8x2048x8x1x32_S8x2048x8x16x32_0_1_2_3_4 : (⟨S8x2048x8x1x32, .f32⟩ : BufTy).Contents (Elt F) → (⟨S8x2048x8x16x32, .f32⟩ : BufTy).Contents (Elt F)),
    unary main_v64 main_v67 (broadcastInDim S8x2048x8x16x32 ![0, 1, 2, 3, 4] bcast_S8x2048x8x16x1_S8x2048x8x16x32_0_1_2_3_4 : (⟨S8x2048x8x16x1, .f32⟩ : BufTy).Contents (Elt F) → (⟨S8x2048x8x16x32, .f32⟩ : BufTy).Contents (Elt F)),
    binary main_v66 main_v67 main_v68 (mulf : (⟨S8x2048x8x16x32, .f32⟩ : BufTy).Contents (Elt F) → (⟨S8x2048x8x16x32, .f32⟩ : BufTy).Contents (Elt F) → (⟨S8x2048x8x16x32, .f32⟩ : BufTy).Contents (Elt F)),
    nullary main_cst_8 (constant S_ .f32 0x00000000#32),
    binary main_v68 main_cst_8 main_v69 ((fun x v => Host.reduceAdd x v reducesTo_S8x2048x8x16x32_S8x2048x8x16_d4 h_S_) : (⟨S8x2048x8x16x32, .f32⟩ : BufTy).Contents (Elt F) → (⟨S_, .f32⟩ : BufTy).Contents (Elt F) → (⟨S8x2048x8x16, .f32⟩ : BufTy).Contents (Elt F)),
    reshape main_v69 main_v70 (rfl : (.f32 : EltTy) = .f32) shapeCasts_S8x2048x8x16_S8x2048x128]

/-- The buffers that the stage `value` writes. -/
abbrev valueWrites : List (Ref sig .tc) :=
  [main_v60, main_v61, main_v62, main_v63, main_v64, main_v65, main_v66, main_v67, main_v68, main_cst_8,
   main_v69, main_v70]

/-- The layer normalisation. -/
abbrev normOps : List (HloOp τ sig (Elt F)) :=
  [nullary main_cst_9 (constant S_ .f32 0x00000000#32),
    binary main_v70 main_cst_9 main_v71 ((fun x v => Host.reduceAdd x v reducesTo_S8x2048x128_S8x2048_d2 h_S_) : (⟨S8x2048x128, .f32⟩ : BufTy).Contents (Elt F) → (⟨S_, .f32⟩ : BufTy).Contents (Elt F) → (⟨S8x2048, .f32⟩ : BufTy).Contents (Elt F)),
    unary main_v71 main_v72 (broadcastInDim S8x2048x1 ![0, 1] bcast_S8x2048_S8x2048x1_0_1 : (⟨S8x2048, .f32⟩ : BufTy).Contents (Elt F) → (⟨S8x2048x1, .f32⟩ : BufTy).Contents (Elt F)),
    nullary main_cst_10 (constant S_ .f32 0x43000000#32),
    unary main_cst_10 main_v73 (broadcastInDim S8x2048x1 ![] bcast_S_S8x2048x1 : (⟨S_, .f32⟩ : BufTy).Contents (Elt F) → (⟨S8x2048x1, .f32⟩ : BufTy).Contents (Elt F)),
    binary main_v72 main_v73 main_v74 (Host.divf : (⟨S8x2048x1, .f32⟩ : BufTy).Contents (Elt F) → (⟨S8x2048x1, .f32⟩ : BufTy).Contents (Elt F) → (⟨S8x2048x1, .f32⟩ : BufTy).Contents (Elt F)),
    nullary main_c_11 (constantI S_ 32 0#32)] ++
   varOps (.of main_v70) (.of main_c_11) main_call3 ++
   [unary main_v74 main_v76 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v70 main_v76 main_v77 (subf : (⟨S8x2048x128, .f32⟩ : BufTy).Contents (Elt F) → (⟨S8x2048x128, .f32⟩ : BufTy).Contents (Elt F) → (⟨S8x2048x128, .f32⟩ : BufTy).Contents (Elt F)),
    nullary main_cst_12 (constant S_ .f32 0x3727C5AC#32),
    unary main_cst_12 main_v78 (broadcastInDim S8x2048x1 ![] bcast_S_S8x2048x1 : (⟨S_, .f32⟩ : BufTy).Contents (Elt F) → (⟨S8x2048x1, .f32⟩ : BufTy).Contents (Elt F)),
    binary main_v75 main_v78 main_v79 (addf : (⟨S8x2048x1, .f32⟩ : BufTy).Contents (Elt F) → (⟨S8x2048x1, .f32⟩ : BufTy).Contents (Elt F) → (⟨S8x2048x1, .f32⟩ : BufTy).Contents (Elt F)),
    unary main_v79 main_v80 (Host.sqrt : (⟨S8x2048x1, .f32⟩ : BufTy).Contents (Elt F) → (⟨S8x2048x1, .f32⟩ : BufTy).Contents (Elt F)),
    unary main_v80 main_v81 (broadcastInDim S8x2048x128 ![0, 1, 2] bcast_S8x2048x1_S8x2048x128_0_1_2 : (⟨S8x2048x1, .f32⟩ : BufTy).Contents (Elt F) → (⟨S8x2048x128, .f32⟩ : BufTy).Contents (Elt F)),
    binary main_v77 main_v81 main_v82 (Host.divf : (⟨S8x2048x128, .f32⟩ : BufTy).Contents (Elt F) → (⟨S8x2048x128, .f32⟩ : BufTy).Contents (Elt F) → (⟨S8x2048x128, .f32⟩ : BufTy).Contents (Elt F)),
    unary main_arg9 main_v83 (broadcastInDim S1x1x128 ![2] bcast_S128_S1x1x128_2 : (⟨S128, .f32⟩ : BufTy).Contents (Elt F) → (⟨S1x1x128, .f32⟩ : BufTy).Contents (Elt F)),
    unary main_v83 main_v84 (broadcastInDim S8x2048x128 ![0, 1, 2] bcast_S1x1x128_S8x2048x128_0_1_2 : (⟨S1x1x128, .f32⟩ : BufTy).Contents (Elt F) → (⟨S8x2048x128, .f32⟩ : BufTy).Contents (Elt F)),
    binary main_v82 main_v84 main_v85 (mulf : (⟨S8x2048x128, .f32⟩ : BufTy).Contents (Elt F) → (⟨S8x2048x128, .f32⟩ : BufTy).Contents (Elt F) → (⟨S8x2048x128, .f32⟩ : BufTy).Contents (Elt F)),
    unary main_arg10 main_v86 (broadcastInDim S1x1x128 ![2] bcast_S128_S1x1x128_2 : (⟨S128, .f32⟩ : BufTy).Contents (Elt F) → (⟨S1x1x128, .f32⟩ : BufTy).Contents (Elt F)),
    unary main_v86 main_v87 (broadcastInDim S8x2048x128 ![0, 1, 2] bcast_S1x1x128_S8x2048x128_0_1_2 : (⟨S1x1x128, .f32⟩ : BufTy).Contents (Elt F) → (⟨S8x2048x128, .f32⟩ : BufTy).Contents (Elt F)),
    binary main_v85 main_v87 main_v88 (addf : (⟨S8x2048x128, .f32⟩ : BufTy).Contents (Elt F) → (⟨S8x2048x128, .f32⟩ : BufTy).Contents (Elt F) → (⟨S8x2048x128, .f32⟩ : BufTy).Contents (Elt F))]

/-- The buffers that the stage `norm` writes. -/
abbrev normWrites : List (Ref sig .tc) :=
  [main_cst_9, main_v71, main_v72, main_cst_10, main_v73, main_v74, main_c_11, main_call3_cst, main_call3_v0,
   main_call3_v1, main_call3_cst_0, main_call3_v2, main_call3_v3, main_call3_v4, main_call3_v5, main_call3_v6,
   main_call3_v7, main_call3_cst_1, main_call3_v8, main_call3_cst_2, main_call3_v9, main_call3_v10,
   main_call3_v11, main_call3_v12, main_call3_cst_3, main_call3_v13, main_call3_cst_4, main_call3_call0_v0,
   main_call3_call0_v1, main_v75, main_v76, main_v77, main_cst_12, main_v78, main_v79, main_v80, main_v81,
   main_v82, main_v83, main_v84, main_v85, main_v86, main_v87, main_v88]

/-- The gated feed-forward block and the residual. -/
abbrev ffnOps : List (HloOp τ sig (Elt F)) :=
  [binary main_v88 main_arg11 main_v89 ((fun l r => Host.dotGeneral dot_S8x2048x128_S128x512_S8x2048x512_2_0_01_1_n_n none l r) : (⟨S8x2048x128, .f32⟩ : BufTy).Contents (Elt F) → (⟨S128x512, .f32⟩ : BufTy).Contents (Elt F) → (⟨S8x2048x512, .f32⟩ : BufTy).Contents (Elt F))] ++
   siluOps (.of main_v89) main_call4 ++
   [binary main_v88 main_arg12 main_v91 ((fun l r => Host.dotGeneral dot_S8x2048x128_S128x512_S8x2048x512_2_0_01_1_n_n none l r) : (⟨S8x2048x128, .f32⟩ : BufTy).Contents (Elt F) → (⟨S128x512, .f32⟩ : BufTy).Contents (Elt F) → (⟨S8x2048x512, .f32⟩ : BufTy).Contents (Elt F)),
    binary main_v90 main_v91 main_v92 (mulf : (⟨S8x2048x512, .f32⟩ : BufTy).Contents (Elt F) → (⟨S8x2048x512, .f32⟩ : BufTy).Contents (Elt F) → (⟨S8x2048x512, .f32⟩ : BufTy).Contents (Elt F)),
    binary main_v92 main_arg13 main_v93 ((fun l r => Host.dotGeneral dot_S8x2048x512_S512x128_S8x2048x128_2_0_01_1_n_n none l r) : (⟨S8x2048x512, .f32⟩ : BufTy).Contents (Elt F) → (⟨S512x128, .f32⟩ : BufTy).Contents (Elt F) → (⟨S8x2048x128, .f32⟩ : BufTy).Contents (Elt F)),
    binary main_v93 main_arg0 main_v94 (addf : (⟨S8x2048x128, .f32⟩ : BufTy).Contents (Elt F) → (⟨S8x2048x128, .f32⟩ : BufTy).Contents (Elt F) → (⟨S8x2048x128, .f32⟩ : BufTy).Contents (Elt F))]

/-- The buffers that the stage `ffn` writes. -/
abbrev ffnWrites : List (Ref sig .tc) :=
  [main_v89, main_call4_v0, main_call4_v1, main_call4_cst, main_call4_v2, main_call4_v3, main_call4_cst_0,
   main_call4_v4, main_call4_v5, main_v90, main_v91, main_v92, main_v93, main_v94]

/-- The whole line. -/
abbrev ops : List (HloOp τ sig (Elt F)) :=
  (distOps ++ nearestOps ++ rowOps ++ softmaxOps ++ maskOps) ++
    (weightOps ++ valueOps ++ normOps ++ ffnOps)

set_option maxHeartbeats 4000000 in
theorem main_part0_eq (c : Dev nD) : main_part0 (F := F) c =
    seq (distOps ++ nearestOps ++ rowOps ++ softmaxOps ++ maskOps) := rfl

set_option maxHeartbeats 4000000 in
theorem main_part1_eq (c : Dev nD) : main_part1 (F := F) c = seq (weightOps ++ valueOps ++ normOps ++ ffnOps) := rfl

/-- The reference's program is its line. -/
theorem main_eq (c : Dev nD) : main (F := F) c = seq ops := by
  rw [ops, seq_append, ← main_part0_eq c, ← main_part1_eq c]
  rfl

/-- Every stage touches references of the core alone. -/
theorem ops_sub : (ops : List (HloOp τ sig (Elt F))).Forall fun op => op.bufs ⊆ tcRefs τ sig := by
  simp only [ops, List.forall_append]
  refine ⟨⟨⟨⟨⟨?_, ?_⟩, ?_⟩, ?_⟩, ?_⟩, ⟨⟨?_, ?_⟩, ?_⟩, ?_⟩ <;>
    simp only [List.forall_append, List.Forall, TRef.nullary, TRef.unary, TRef.binary, TRef.ternary, TRef.quaternary, TRef.reshape,
      nullary_bufs_sub, unary_bufs_sub, binary_bufs_sub, ternary_bufs_sub, quaternary_bufs_sub, reshape_bufs_sub, and_self]

/-- No operation leaves a buffer undetermined. -/
theorem ops_fresh : ∀ op ∈ (ops : List (HloOp τ sig (Elt F))), op.fresh = ∅ :=
  List.forall_iff_forall_mem.mp (forall_fresh_of_map rfl)

/-- The reference runs: every buffer ends at what the line leaves there of the launch contents. -/
theorem run (m : (ℓ : Loc nD τ sig) → Buf (Elt F) ℓ) (ρ : Dev nD → PrngReg) :
    θ_run (defs (F := F)) (onTc (τ := τ) main) ⟨m, fun _ => 0, ρ⟩ fun r => ∀ (d : Dev nD) (b : Ref sig .tc),
      r.2.mem ((d.tc : Thread nD τ).loc b) = after ops (launchContents m d) (Proc.devRef .tc b) :=
  run_seq (by decide) (by decide) defs main (fun _ => ops) main_eq (fun _ => ops_sub) m ρ (fun _ => ops_fresh)

/-! A stage leaves alone what it does not write. -/

theorem dist_skips (V : Valuation τ sig (Elt F)) {r : Ref sig .tc} (h : r ∉ distWrites) :
    after distOps V (Proc.devRef .tc r) = V (Proc.devRef .tc r) := after_unwritten distWrites rfl h V

theorem nearest_skips (V : Valuation τ sig (Elt F)) {r : Ref sig .tc} (h : r ∉ nearestWrites) :
    after nearestOps V (Proc.devRef .tc r) = V (Proc.devRef .tc r) := after_unwritten nearestWrites rfl h V

theorem row_skips (V : Valuation τ sig (Elt F)) {r : Ref sig .tc} (h : r ∉ rowWrites) :
    after rowOps V (Proc.devRef .tc r) = V (Proc.devRef .tc r) := after_unwritten rowWrites rfl h V

theorem softmax_skips (V : Valuation τ sig (Elt F)) {r : Ref sig .tc} (h : r ∉ softmaxWrites) :
    after softmaxOps V (Proc.devRef .tc r) = V (Proc.devRef .tc r) := after_unwritten softmaxWrites rfl h V

theorem mask_skips (V : Valuation τ sig (Elt F)) {r : Ref sig .tc} (h : r ∉ maskWrites) :
    after maskOps V (Proc.devRef .tc r) = V (Proc.devRef .tc r) := after_unwritten maskWrites rfl h V

theorem weight_skips (V : Valuation τ sig (Elt F)) {r : Ref sig .tc} (h : r ∉ weightWrites) :
    after weightOps V (Proc.devRef .tc r) = V (Proc.devRef .tc r) := after_unwritten weightWrites rfl h V

theorem value_skips (V : Valuation τ sig (Elt F)) {r : Ref sig .tc} (h : r ∉ valueWrites) :
    after valueOps V (Proc.devRef .tc r) = V (Proc.devRef .tc r) := after_unwritten valueWrites rfl h V

theorem norm_skips (V : Valuation τ sig (Elt F)) {r : Ref sig .tc} (h : r ∉ normWrites) :
    after normOps V (Proc.devRef .tc r) = V (Proc.devRef .tc r) := after_unwritten normWrites rfl h V

theorem ffn_skips (V : Valuation τ sig (Elt F)) {r : Ref sig .tc} (h : r ∉ ffnWrites) :
    after ffnOps V (Proc.devRef .tc r) = V (Proc.devRef .tc r) := after_unwritten ffnWrites rfl h V

end Cert.RefLine

end
-- ==== Proof.RefTerms.lean ====
/-
  What each stage of the reference leaves in the buffer that the next stages read, as a term of the buffers it reads:
  the nearest bin, the table row, the softmax weights, the masks, the normalised weights, the weighted sum of the
  values, the layer normalisation and the feed-forward block.
-/
module

public import proofs.«01_k».proof.Proof.RefLine

@[expose] public section

set_option maxRecDepth 8192

noncomputable section

namespace Cert.RefTerms

open Cert.ReferenceIdeal Cert.ReferenceIdeal.Gen Idealize.ShloMosaic Idealize.ShloMosaic.TcCoe Idealize.SL.Sem
  Idealize.ShloMosaic.StableHlo Cert.RefLine

variable {F : FTy → Type} [FloatOps F]

/-- The contents of a buffer of shape `s` and element type `e`. -/
abbrev Arr (F : FTy → Type) (s : Shape) (e : EltTy) := (⟨s, e⟩ : BufTy).Contents (Elt F)

/-- The second components of an array of pairs. -/
def second {s : Shape} {α β : Type} (p : s.Idx → α × β) : s.Idx → β := fun j => (p j).2

/-- The index of the nearest bin. -/
def nearest (gap : Arr F S8x2048x32x128 .f32) : Arr F S8x2048x32 .i32 :=
  second (Host.argReduce reducer_argmin_f32_i32 gap (iotaInDim S8x2048x32x128 32 3) (constant (F := F) S_ .f32 0x7F800000#32)
    (constantI S_ 32 0#32) reducesTo_S8x2048x32x128_S8x2048x32_d3 h_S_)

/-- An index with the negative ones wrapped round. -/
def wrapped (n : BitVec 32) (i : Arr F S8x2048x32 .i32) : Arr F S8x2048x32x1 .i32 :=
  broadcastInDim S8x2048x32x1 ![0, 1, 2] bcast_S8x2048x32_S8x2048x32x1_0_1_2
    (select (cmpi .slt i (broadcastInDim S8x2048x32 ![] bcast_S_S8x2048x32 (constantI S_ 32 0#32)))
      (addi i (broadcastInDim S8x2048x32 ![] bcast_S_S8x2048x32 (constantI S_ 32 n))) i)

/-- Whether a wrapped index lies in the table. -/
def inTable (w : Arr F S8x2048x32x1 .i32) : Arr F S8x2048x32 .i1 :=
  Host.reduce IntOp.andi
    (andi (cmpi .sge w (broadcastInDim S8x2048x32x1 ![] bcast_S_S8x2048x32x1 (constantI S_ 32 0#32)))
      (cmpi .sle w (broadcastInDim S8x2048x32x1 ![0, 1, 2, 3] bcast_S1x1x1x1_S8x2048x32x1_0_1_2_3
        (broadcastInDim S1x1x1x1 ![3] bcast_S1_S1x1x1x1_3 (constantI S1 32 127#32)))))
    (constantI S_ 1 1#1) reducesTo_S8x2048x32x1_S8x2048x32_d3 h_S_

/-- The rows of a table at given indices; a row outside the table is filled. -/
def rows (tbl : Arr F S128x128 .f32) (i : Arr F S8x2048x32 .i32) : Arr F S8x2048x32x128 .f32 :=
  select (broadcastInDim S8x2048x32x128 ![0, 1, 2] bcast_S8x2048x32_S8x2048x32x128_0_1_2 (inTable (F := F) (wrapped (F := F) 128#32 i)))
    (Host.gather gather_S128x128_S8x2048x32x1_S8x2048x32x128_3_0_n_n_0_3_1128 tbl (wrapped (F := F) 128#32 i))
    (broadcastInDim S8x2048x32x128 ![] bcast_S_S8x2048x32x128 (constant S_ .f32 0x7FC00000#32))

/-- The affinity of each neighbour, regrouped per head as `x.reshape` regroups it. -/
def logits (emb : Arr F S8x2048x32x128 .f32) (W : Arr F S128x8 .f32) (b : Arr F S8 .f32) : Arr F S8x2048x8x32 .f32 :=
  shapeCast S8x2048x8x32 (addf (Host.dotGeneral dot_S8x2048x32x128_S128x8_S8x2048x32x8_3_0_012_1_n_n none emb W)
    (broadcastInDim S8x2048x32x8 ![0, 1, 2, 3] bcast_S1x1x1x8_S8x2048x32x8_0_1_2_3
      (broadcastInDim S1x1x1x8 ![3] bcast_S8_S1x1x1x8_3 b))) shapeCasts_S8x2048x32x8_S8x2048x8x32

/-- A value per head, repeated over the neighbours. -/
def spread (m : Arr F S8x2048x8 .f32) : Arr F S8x2048x8x32 .f32 :=
  broadcastInDim S8x2048x8x32 ![0, 1, 2, 3] bcast_S8x2048x8x1_S8x2048x8x32_0_1_2_3
    (broadcastInDim S8x2048x8x1 ![0, 1, 2] bcast_S8x2048x8_S8x2048x8x1_0_1_2 m)

/-- The sum over the neighbours. -/
def total (a : Arr F S8x2048x8x32 .f32) : Arr F S8x2048x8 .f32 :=
  Host.reduceAdd a (constant S_ .f32 0x00000000#32) reducesTo_S8x2048x8x32_S8x2048x8_d3 h_S_

/-- The largest over the neighbours. -/
def peak (l : Arr F S8x2048x8x32 .f32) : Arr F S8x2048x8 .f32 :=
  Host.reduce FloatOps.maximumf l (constant S_ .f32 0xFF800000#32) reducesTo_S8x2048x8x32_S8x2048x8_d3 h_S_

/-- The largest over the neighbours, no less than the smallest number. -/
def largest (l : Arr F S8x2048x8x32 .f32) : Arr F S8x2048x8 .f32 :=
  maximumf (broadcastInDim S8x2048x8 ![] bcast_S_S8x2048x8 (constant S_ .f32 0xFF800000#32)) (peak l)

/-- The exponentials of the affinities less their largest. -/
def exps (l : Arr F S8x2048x8x32 .f32) : Arr F S8x2048x8x32 .f32 := Host.exp (subf l (spread (largest l)))

/-- The softmax over the neighbours. -/
def softmax (l : Arr F S8x2048x8x32 .f32) : Arr F S8x2048x8x32 .f32 := Host.divf (exps l) (spread (total (exps l)))

/-- The mask as numbers. -/
def maskF (k : Arr F S8x2048 .i1) : Arr F S8x2048 .f32 := uitofp .f32 k

/-- The mask of the neighbours. -/
def nbrMask (k : Arr F S8x2048 .i1) (i : Arr F S8x2048x32 .i32) : Arr F S8x2048x32 .f32 :=
  Host.gather gather_S8x2048_S8x2048x32x1_S8x2048x32_n_1_0_0_1_3_11 (maskF k) (wrapped (F := F) 2048#32 i)

/-- The mask of the rows, repeated over the neighbours. -/
def rowMask (k : Arr F S8x2048 .i1) : Arr F S8x2048x32 .f32 :=
  broadcastInDim S8x2048x32 ![0, 1, 2] bcast_S8x2048x1_S8x2048x32_0_1_2
    (broadcastInDim S8x2048x1 ![0, 1] bcast_S8x2048_S8x2048x1_0_1 (maskF k))

/-- The masked softmax. -/
def masked (p : Arr F S8x2048x8x32 .f32) (m : Arr F S8x2048x32 .f32) : Arr F S8x2048x8x32 .f32 :=
  mulf p (broadcastInDim S8x2048x8x32 ![0, 1, 2, 3] bcast_S8x2048x1x32_S8x2048x8x32_0_1_2_3
    (shapeCast S8x2048x1x32 m shapeCasts_S8x2048x32_S8x2048x1x32))

/-- Weights over their sum plus the small number of the normalisation. -/
def renormed (a : Arr F S8x2048x8x32 .f32) : Arr F S8x2048x8x32 .f32 :=
  Host.divf a (broadcastInDim S8x2048x8x32 ![0, 1, 2, 3] bcast_S8x2048x8x1_S8x2048x8x32_0_1_2_3
    (addf (broadcastInDim S8x2048x8x1 ![0, 1, 2] bcast_S8x2048x8_S8x2048x8x1_0_1_2 (total a))
      (broadcastInDim S8x2048x8x1 ![] bcast_S_S8x2048x8x1 (constant S_ .f32 0x358637BD#32))))

/-- A vector over the channels, repeated over the rows. -/
def perChannel (b : Arr F S128 .f32) : Arr F S8x2048x128 .f32 :=
  broadcastInDim S8x2048x128 ![0, 1, 2] bcast_S1x1x128_S8x2048x128_0_1_2 (broadcastInDim S1x1x128 ![2] bcast_S128_S1x1x128_2 b)

/-- The values of every row. -/
def values (x : Arr F S8x2048x128 .f32) (W : Arr F S128x128 .f32) (b : Arr F S128 .f32) : Arr F S8x2048x128 .f32 :=
  addf (Host.dotGeneral dot_S8x2048x128_S128x128_S8x2048x128_2_0_01_1_n_n none x W) (perChannel b)

/-- The values summed over the neighbours with the weights `a`. -/
def update (a : Arr F S8x2048x8x32 .f32) (v : Arr F S8x2048x128 .f32) : Arr F S8x2048x128 .f32 :=
  shapeCast S8x2048x128 (Host.reduceAdd
    (mulf (broadcastInDim S8x2048x8x16x32 ![0, 1, 2, 3, 4] bcast_S8x2048x8x1x32_S8x2048x8x16x32_0_1_2_3_4
        (broadcastInDim S8x2048x8x1x32 ![0, 1, 2, 4] bcast_S8x2048x8x32_S8x2048x8x1x32_0_1_2_4 a))
      (broadcastInDim S8x2048x8x16x32 ![0, 1, 2, 3, 4] bcast_S8x2048x8x16x1_S8x2048x8x16x32_0_1_2_3_4
        (shapeCast S8x2048x8x16x1 v shapeCasts_S8x2048x128_S8x2048x8x16x1)))
    (constant S_ .f32 0x00000000#32) reducesTo_S8x2048x8x16x32_S8x2048x8x16_d4 h_S_) shapeCasts_S8x2048x8x16_S8x2048x128

/-- The sum over the channels, as a column. -/
def rowSum (u : Arr F S8x2048x128 .f32) : Arr F S8x2048x1 .f32 :=
  broadcastInDim S8x2048x1 ![0, 1] bcast_S8x2048_S8x2048x1_0_1
    (Host.reduceAdd u (constant S_ .f32 0x00000000#32) reducesTo_S8x2048x128_S8x2048_d2 h_S_)

/-- A column repeated over the channels. -/
def overChannels (c : Arr F S8x2048x1 .f32) : Arr F S8x2048x128 .f32 :=
  broadcastInDim S8x2048x128 ![0, 1, 2] bcast_S8x2048x1_S8x2048x128_0_1_2 c

/-- A number repeated over a column. -/
def column (c : Arr F S_ .f32) : Arr F S8x2048x1 .f32 := broadcastInDim S8x2048x1 ![] bcast_S_S8x2048x1 c

/-- The mean over the channels. -/
def mean (u : Arr F S8x2048x128 .f32) : Arr F S8x2048x1 .f32 :=
  Host.divf (rowSum u) (column (constant S_ .f32 0x43000000#32))

/-- An array less its mean over the channels. -/
def centred (u : Arr F S8x2048x128 .f32) : Arr F S8x2048x128 .f32 := subf u (overChannels (mean u))

/-- The number of channels less the degrees of freedom given up (none). -/
def count : Arr F S_ .f32 := subf (constant S_ .f32 0x43000000#32) (sitofp .f32 (constantI S_ 32 0#32))

/-- The variance over the channels, not-a-number where the count is not positive. -/
def variance (u : Arr F S8x2048x128 .f32) : Arr F S8x2048x1 .f32 :=
  select (broadcastInDim S8x2048x1 ![] bcast_S_S8x2048x1 (cmpf .ogt (count (F := F)) (constant S_ .f32 0x00000000#32)))
    (Host.divf (rowSum (mulf (centred u) (centred u))) (column count)) (column (id (constant S_ .f32 0x7FC00000#32)))

/-- The layer normalisation. -/
def layerNorm (u : Arr F S8x2048x128 .f32) (g b : Arr F S128 .f32) : Arr F S8x2048x128 .f32 :=
  addf (mulf (Host.divf (centred u) (overChannels (Host.sqrt (addf (variance u) (column (constant S_ .f32 0x3727C5AC#32))))))
    (perChannel g)) (perChannel b)

/-- `silu`. -/
def silu (h : Arr F S8x2048x512 .f32) : Arr F S8x2048x512 .f32 :=
  mulf h (Host.divf (broadcastInDim S8x2048x512 ![] bcast_S_S8x2048x512 (constant S_ .f32 0x3F800000#32))
    (addf (broadcastInDim S8x2048x512 ![] bcast_S_S8x2048x512 (constant S_ .f32 0x3F800000#32)) (Host.exp (Host.negf h))))

/-- The gated feed-forward block and the residual. -/
def feedForward (h : Arr F S8x2048x128 .f32) (W1 W2 : Arr F S128x512 .f32) (W3 : Arr F S512x128 .f32)
    (x : Arr F S8x2048x128 .f32) : Arr F S8x2048x128 .f32 :=
  addf (Host.dotGeneral dot_S8x2048x512_S512x128_S8x2048x128_2_0_01_1_n_n none
    (mulf (silu (Host.dotGeneral dot_S8x2048x128_S128x512_S8x2048x512_2_0_01_1_n_n none h W1))
      (Host.dotGeneral dot_S8x2048x128_S128x512_S8x2048x512_2_0_01_1_n_n none h W2)) W3) x

variable (V : Valuation τ sig (Elt F))

theorem nearest_read : after nearestOps V (Proc.devRef .tc main_v22) = nearest (V (Proc.devRef .tc main_v21)) := by
  after_reads_simp; simp only [TRef.ofBuf_toBuf]; rfl

theorem row_read : after rowOps V (Proc.devRef .tc main_v23) =
    rows (V (Proc.devRef .tc main_arg6)) (V (Proc.devRef .tc main_v22)) := by
  after_reads_simp; simp only [TRef.ofBuf_toBuf];
  unfold rows inTable wrapped
  have h1 : (TRef.of main_v22 : TRef sig ⟨S8x2048x32, .i32⟩).ofBuf (V (Proc.devRef .tc main_v22)) = V (Proc.devRef .tc main_v22) := rfl
  have h2 : (TRef.of main_arg6 : TRef sig ⟨S128x128, .f32⟩).ofBuf (V (Proc.devRef .tc main_arg6)) = V (Proc.devRef .tc main_arg6) := rfl
  rw [h1, h2]
  have h3 (v) : (TRef.of main_v23 : TRef sig ⟨S8x2048x32x128, .f32⟩).toBuf (Val := Elt F) v = v := rfl
  rw [h3]

theorem softmax_read : after softmaxOps V (Proc.devRef .tc main_v39) =
    softmax (logits (V (Proc.devRef .tc main_v23)) (V (Proc.devRef .tc main_arg7)) (V (Proc.devRef .tc main_arg8))) := by
  after_reads_simp; rfl

theorem mask_read_nbr : after maskOps V (Proc.devRef .tc main_v47) =
    nbrMask (V (Proc.devRef .tc main_arg3)) (V (Proc.devRef .tc main_indices)) := by
  after_reads_simp; rfl

theorem mask_read_row : after maskOps V (Proc.devRef .tc main_v49) = rowMask (V (Proc.devRef .tc main_arg3)) := by
  after_reads_simp; rfl

theorem weight_read : after weightOps V (Proc.devRef .tc main_v59) =
    renormed (masked (V (Proc.devRef .tc main_v39)) (mulf (V (Proc.devRef .tc main_v49)) (V (Proc.devRef .tc main_v47)))) := by
  after_reads_simp; rfl

theorem value_read : after valueOps V (Proc.devRef .tc main_v70) =
    update (V (Proc.devRef .tc main_v59))
      (values (V (Proc.devRef .tc main_arg0)) (V (Proc.devRef .tc main_arg4)) (V (Proc.devRef .tc main_arg5))) := by
  after_reads_simp; rfl

theorem norm_read : after normOps V (Proc.devRef .tc main_v88) =
    layerNorm (V (Proc.devRef .tc main_v70)) (V (Proc.devRef .tc main_arg9)) (V (Proc.devRef .tc main_arg10)) := by
  after_reads_simp; simp only [TRef.ofBuf_toBuf];
  rfl

theorem ffn_read : after ffnOps V (Proc.devRef .tc main_v94) =
    feedForward (V (Proc.devRef .tc main_v88)) (V (Proc.devRef .tc main_arg11)) (V (Proc.devRef .tc main_arg12))
      (V (Proc.devRef .tc main_arg13)) (V (Proc.devRef .tc main_arg0)) := by
  after_reads_simp; simp only [TRef.ofBuf_toBuf]; rfl

end Cert.RefTerms

end
-- ==== Proof.RefRun.lean ====
/-
  What the whole line of the reference leaves in its result: the stages composed. The gaps to the bins and the chosen
  neighbours stay unnamed, since the equation holds whatever they are. And what the line leaves of its arguments.
-/
module

public import proofs.«01_k».proof.Proof.RefTerms

@[expose] public section

set_option maxRecDepth 8192

noncomputable section

namespace Cert.RefRun

open Cert.ReferenceIdeal Cert.ReferenceIdeal.Gen Idealize.ShloMosaic Idealize.ShloMosaic.TcCoe Idealize.SL.Sem
  Idealize.ShloMosaic.StableHlo Cert.RefLine Cert.RefTerms

variable {F : FTy → Type} [FloatOps F]

/-- The references of the arguments. -/
abbrev args : List (Ref sig .tc) := [main_arg0, main_arg1, main_arg2, main_arg3, main_arg4, main_arg5, main_arg6,
  main_arg7, main_arg8, main_arg9, main_arg10, main_arg11, main_arg12, main_arg13, main_arg14]

/-- The contents once the table rows are taken. -/
def V3 (V : Valuation τ sig (Elt F)) := after rowOps (after nearestOps (after distOps V))
/-- The contents once the weights are normalised. -/
def V6 (V : Valuation τ sig (Elt F)) := after weightOps (after maskOps (after softmaxOps V))
/-- The contents at the end. -/
def V9 (V : Valuation τ sig (Elt F)) := after ffnOps (after normOps (after valueOps V))

theorem ops_after (V : Valuation τ sig (Elt F)) : after ops V = V9 (V6 (V3 V)) := by
  simp only [ops, after_append, V3, V6, V9]

theorem V3_args (V : Valuation τ sig (Elt F)) {r : Ref sig .tc} (h : r ∈ args) :
    V3 V (Proc.devRef .tc r) = V (Proc.devRef .tc r) := by
  rw [V3, row_skips _ ((by decide : ∀ r ∈ args, r ∉ rowWrites) r h), nearest_skips _ ((by decide : ∀ r ∈ args, r ∉ nearestWrites) r h),
    dist_skips _ ((by decide : ∀ r ∈ args, r ∉ distWrites) r h)]

theorem V6_args (V : Valuation τ sig (Elt F)) {r : Ref sig .tc} (h : r ∈ args) :
    V6 V (Proc.devRef .tc r) = V (Proc.devRef .tc r) := by
  rw [V6, weight_skips _ ((by decide : ∀ r ∈ args, r ∉ weightWrites) r h), mask_skips _ ((by decide : ∀ r ∈ args, r ∉ maskWrites) r h),
    softmax_skips _ ((by decide : ∀ r ∈ args, r ∉ softmaxWrites) r h)]

theorem V9_args (V : Valuation τ sig (Elt F)) {r : Ref sig .tc} (h : r ∈ args) :
    V9 V (Proc.devRef .tc r) = V (Proc.devRef .tc r) := by
  rw [V9, ffn_skips _ ((by decide : ∀ r ∈ args, r ∉ ffnWrites) r h), norm_skips _ ((by decide : ∀ r ∈ args, r ∉ normWrites) r h),
    value_skips _ ((by decide : ∀ r ∈ args, r ∉ valueWrites) r h)]

/-- The line leaves every argument as it was. -/
theorem ops_args (V : Valuation τ sig (Elt F)) {r : Ref sig .tc} (h : r ∈ args) :
    after ops V (Proc.devRef .tc r) = V (Proc.devRef .tc r) := by
  rw [ops_after, V9_args _ h, V6_args _ h, V3_args _ h]

/-- The rows taken are rows of the table, at the nearest bins of some gaps. -/
theorem V3_rows (V : Valuation τ sig (Elt F)) : ∃ gap, V3 V (Proc.devRef .tc main_v23) =
    rows (V (Proc.devRef .tc main_arg6)) (nearest gap) := by
  refine ⟨after distOps V (Proc.devRef .tc main_v21), ?_⟩
  rw [V3, row_read, nearest_read, nearest_skips _ (r := main_arg6) (by decide), dist_skips _ (r := main_arg6) (by decide)]

/-- The normalised weights, from the rows taken. -/
theorem V6_weights (V : Valuation τ sig (Elt F)) : V6 V (Proc.devRef .tc main_v59) = renormed (masked
    (softmax (logits (V (Proc.devRef .tc main_v23)) (V (Proc.devRef .tc main_arg7)) (V (Proc.devRef .tc main_arg8))))
    (mulf (rowMask (V (Proc.devRef .tc main_arg3))) (nbrMask (V (Proc.devRef .tc main_arg3)) (V (Proc.devRef .tc main_indices))))) := by
  rw [V6, weight_read, mask_read_nbr, mask_read_row, mask_skips _ (r := main_v39) (by decide), softmax_read,
    softmax_skips _ (r := main_arg3) (by decide), softmax_skips _ (r := main_indices) (by decide)]

/-- The result, from the normalised weights. -/
theorem V9_result (V : Valuation τ sig (Elt F)) : V9 V (Proc.devRef .tc main_v94) = feedForward
    (layerNorm (update (V (Proc.devRef .tc main_v59))
        (values (V (Proc.devRef .tc main_arg0)) (V (Proc.devRef .tc main_arg4)) (V (Proc.devRef .tc main_arg5))))
      (V (Proc.devRef .tc main_arg9)) (V (Proc.devRef .tc main_arg10)))
    (V (Proc.devRef .tc main_arg11)) (V (Proc.devRef .tc main_arg12)) (V (Proc.devRef .tc main_arg13))
    (V (Proc.devRef .tc main_arg0)) := by
  rw [V9, ffn_read, norm_read, value_read,
    norm_skips _ (r := main_arg11) (by decide), value_skips _ (r := main_arg11) (by decide),
    norm_skips _ (r := main_arg12) (by decide), value_skips _ (r := main_arg12) (by decide),
    norm_skips _ (r := main_arg13) (by decide), value_skips _ (r := main_arg13) (by decide),
    norm_skips _ (r := main_arg0) (by decide), value_skips _ (r := main_arg0) (by decide),
    value_skips _ (r := main_arg9) (by decide), value_skips _ (r := main_arg10) (by decide)]

/-- The weights that the reference gives the neighbours, from the gaps, the chosen neighbours and the arguments. -/
def weights (gap : Arr F S8x2048x32x128 .f32) (idx : Arr F S8x2048x32 .i32) (k : Arr F S8x2048 .i1) (tbl : Arr F S128x128 .f32)
    (W : Arr F S128x8 .f32) (b : Arr F S8 .f32) : Arr F S8x2048x8x32 .f32 :=
  renormed (masked (softmax (logits (rows tbl (nearest gap)) W b)) (mulf (rowMask k) (nbrMask k idx)))

/-- The reference's result, from its arguments' contents. -/
theorem result (V : Valuation τ sig (Elt F)) : ∃ gap idx, after ops V (Proc.devRef .tc main_v94) = feedForward
    (layerNorm (update (weights gap idx (V (Proc.devRef .tc main_arg3)) (V (Proc.devRef .tc main_arg6))
          (V (Proc.devRef .tc main_arg7)) (V (Proc.devRef .tc main_arg8)))
        (values (V (Proc.devRef .tc main_arg0)) (V (Proc.devRef .tc main_arg4)) (V (Proc.devRef .tc main_arg5))))
      (V (Proc.devRef .tc main_arg9)) (V (Proc.devRef .tc main_arg10)))
    (V (Proc.devRef .tc main_arg11)) (V (Proc.devRef .tc main_arg12)) (V (Proc.devRef .tc main_arg13))
    (V (Proc.devRef .tc main_arg0)) := by
  obtain ⟨gap, hg⟩ := V3_rows V
  refine ⟨gap, V3 V (Proc.devRef .tc main_indices), ?_⟩
  rw [ops_after, V9_result, V6_weights, hg, V6_args (r := main_arg0) _ (by decide), V6_args (r := main_arg4) _ (by decide),
    V6_args (r := main_arg5) _ (by decide), V6_args (r := main_arg9) _ (by decide), V6_args (r := main_arg10) _ (by decide),
    V6_args (r := main_arg11) _ (by decide), V6_args (r := main_arg12) _ (by decide), V6_args (r := main_arg13) _ (by decide),
    V3_args (r := main_arg0) _ (by decide), V3_args (r := main_arg4) _ (by decide),
    V3_args (r := main_arg5) _ (by decide), V3_args (r := main_arg9) _ (by decide), V3_args (r := main_arg10) _ (by decide),
    V3_args (r := main_arg11) _ (by decide), V3_args (r := main_arg12) _ (by decide), V3_args (r := main_arg13) _ (by decide),
    V3_args (r := main_arg3) _ (by decide), V3_args (r := main_arg7) _ (by decide), V3_args (r := main_arg8) _ (by decide),
    weights]

end Cert.RefRun

end
-- ==== Proof.Row.lean ====
/-
  The mathematics of one row of the block over the extended reals: the value projection scaled, the layer
  normalisation over the channels, the gated feed-forward block, and the residual.
-/
module

public import Idealize.ShloMosaic.Lib.Pointwise

@[expose] public section

noncomputable section

namespace Cert.Row

open Idealize.ShloMosaic

/-- The small number of the weights' normalisation, as the programs spell it. -/
abbrev eps6 : EReal := Ideal.ofBits .f32 0x358637BD#32
/-- The small number of the layer normalisation, as the programs spell it. -/
abbrev eps5 : EReal := Ideal.ofBits .f32 0x3727C5AC#32
/-- The number of channels, as the programs spell it. -/
abbrev chans : EReal := Ideal.ofBits .f32 0x43000000#32

/-- What the normalised weights of a row sum to. -/
def scale : EReal := Ideal.div 1 (1 + eps6)

/-- A row's value at a channel. -/
def value (x : Fin 128 → EReal) (W : Fin 128 → Fin 128 → EReal) (b : Fin 128 → EReal) (j : Fin 128) : EReal :=
  (∑ k, x k * W k j) + b j

/-- A row's mean over the channels. -/
def mean (u : Fin 128 → EReal) : EReal := Ideal.div (∑ j, u j) chans

/-- A row less its mean. -/
def centred (u : Fin 128 → EReal) (j : Fin 128) : EReal := u j - mean u

/-- A row's variance over the channels. -/
def variance (u : Fin 128 → EReal) : EReal := Ideal.div (∑ j, centred u j * centred u j) chans

/-- A row's layer normalisation. -/
def normed (u g b : Fin 128 → EReal) (j : Fin 128) : EReal :=
  centred u j * Ideal.rsqrt (variance u + eps5) * g j + b j

/-- The gated hidden layer. -/
def gated (h : Fin 128 → EReal) (W1 W2 : Fin 128 → Fin 512 → EReal) (f : Fin 512) : EReal :=
  (∑ k, h k * W1 k f) * Ideal.logistic (∑ k, h k * W1 k f) * ∑ k, h k * W2 k f

/-- The feed-forward block and the residual. -/
def feedForward (h : Fin 128 → EReal) (W1 W2 : Fin 128 → Fin 512 → EReal) (W3 : Fin 512 → Fin 128 → EReal)
    (x : Fin 128 → EReal) (j : Fin 128) : EReal :=
  (∑ f, gated h W1 W2 f * W3 f j) + x j

/-- The whole block of one row. -/
def block (x : Fin 128 → EReal) (W : Fin 128 → Fin 128 → EReal) (b g c : Fin 128 → EReal)
    (W1 W2 : Fin 128 → Fin 512 → EReal) (W3 : Fin 512 → Fin 128 → EReal) : Fin 128 → EReal :=
  feedForward (normed (fun j => value x W b j * scale) g c) W1 W2 W3 x

end Cert.Row

end
-- ==== Proof.RowFacts.lean ====
/-
  Facts of the row mathematics: the programs' constants, dividing by a square root is multiplying by its inverse, a
  variance is not negative.
-/
module

public import proofs.«01_k».proof.Proof.Row

@[expose] public section

noncomputable section

namespace Cert.Row

open Idealize.ShloMosaic

/-- The small number of the weights' normalisation is a positive real. -/
theorem eps6_real : ∃ e : ℝ, 0 < e ∧ eps6 = (e : EReal) :=
  ⟨8796093 * 2 ^ (-43 : ℤ), by positivity, by simp [eps6, Ideal.ofBits, Ideal.ieee, -EReal.coe_mul]⟩

/-- The small number of the layer normalisation is a positive real. -/
theorem eps5_real : ∃ e : ℝ, 0 < e ∧ eps5 = (e : EReal) :=
  ⟨10995116 * 2 ^ (-40 : ℤ), by positivity, by simp [eps5, Ideal.ofBits, Ideal.ieee, -EReal.coe_mul]⟩

/-- The number of channels is the real 128. -/
theorem chans_eq : chans = ((128 : ℝ) : EReal) := by
  simp [chans, Ideal.ofBits, Ideal.ieee, -EReal.coe_mul]; norm_num

/-- Dividing by the scale's denominator is multiplying by the scale, which is a real. -/
theorem scale_real : ∃ s : ℝ, scale = (s : EReal) ∧ ∀ x : EReal, Ideal.div x (1 + eps6) = x * scale := by
  obtain ⟨e, he, h⟩ := eps6_real
  have h1 : (1 : EReal) + eps6 = ((1 + e : ℝ) : EReal) := by rw [h]; norm_cast
  have h0 : (1 + e : ℝ) ≠ 0 := by positivity
  have hs : scale = ((1 / (1 + e) : ℝ) : EReal) := by rw [scale, h1, Ideal.div_coe h0, one_mul]
  exact ⟨_, hs, fun x => by rw [hs, h1, Ideal.div_coe h0]⟩

/-- A square is not negative. -/
theorem sq_nonneg (x : EReal) : 0 ≤ x * x := by
  rcases le_total 0 x with h | h
  · exact mul_nonneg h h
  · rw [← neg_mul_neg]; exact mul_nonneg (EReal.neg_nonneg.2 h) (EReal.neg_nonneg.2 h)

/-- A variance is not negative. -/
theorem variance_nonneg (u : Fin 128 → EReal) : 0 ≤ variance u := by
  rw [variance, chans_eq, Ideal.div_coe (by norm_num)]
  exact mul_nonneg (Finset.sum_nonneg fun j _ => sq_nonneg _) (EReal.coe_nonneg.2 (by norm_num))

/-- Dividing by the square root is multiplying by its inverse. -/
theorem div_sqrt {v : EReal} (hv : 0 ≤ v) (x : EReal) :
    Ideal.div x (Ideal.sqrt (v + eps5)) = x * Ideal.rsqrt (v + eps5) := by
  obtain ⟨e, he, h⟩ := eps5_real
  rw [h]
  induction v with
  | bot => simp at hv
  | top => simp [Ideal.div]
  | coe r =>
    have hr : 0 < r + e := add_pos_of_nonneg_of_pos (EReal.coe_nonneg.1 hv) he
    rw [← EReal.coe_add, Ideal.sqrt_coe, if_neg hr.le.not_gt, Ideal.rsqrt_coe, if_neg hr.le.not_gt, if_neg hr.ne',
      Ideal.div_coe (Real.sqrt_pos.2 hr).ne', one_div]

end Cert.Row

end
-- ==== Proof.Softmax.lean ====
/-
  The weights of one head: a softmax of finite affinities sums to one, so weights divided by their sum plus a small
  number and summed against one value give that value scaled.
-/
module

public import proofs.«01_k».proof.Proof.RowFacts

@[expose] public section

noncomputable section

namespace Cert.Softmax

open Idealize.ShloMosaic

/-- The initial value of the largest affinity, as the programs spell it. -/
abbrev low : EReal := Ideal.ofBits .f32 0xFF800000#32

/-- The largest affinity. -/
def top (l : Fin 32 → EReal) : EReal := max low (Finset.univ.fold max low l)

/-- The exponentials of the affinities less their largest. -/
def exps (l : Fin 32 → EReal) (k : Fin 32) : EReal := Ideal.exp (l k - top l)

/-- The softmax of the affinities. -/
def softmax (l : Fin 32 → EReal) (k : Fin 32) : EReal := Ideal.div (exps l k) (∑ i, exps l i)

/-- Weights over their sum plus the small number. -/
def renormed (a : Fin 32 → EReal) (k : Fin 32) : EReal := Ideal.div (a k) ((∑ i, a i) + Row.eps6)

theorem low_eq : low = ⊥ := by simp [low, Ideal.ofBits, Ideal.ieee]

/-- The largest of finite affinities is finite. -/
theorem top_real {l : Fin 32 → EReal} (hl : ∀ k, ∃ r : ℝ, l k = r) : ∃ t : ℝ, top l = t := by
  choose r hr using hl
  refine ⟨(top l).toReal, (EReal.coe_toReal (fun h => ?_) (fun h => ?_)).symm⟩
  · have : top l < ⊤ := by
      rw [top, low_eq, max_lt_iff, Finset.fold_max_lt]
      exact ⟨bot_lt_top, bot_lt_top, fun k _ => by rw [hr]; exact EReal.coe_lt_top _⟩
    exact this.ne h
  · have : l 0 ≤ top l := le_max_of_le_right (Finset.le_fold_max _ |>.2 (Or.inr ⟨0, Finset.mem_univ _, le_rfl⟩))
    rw [h, hr] at this
    exact absurd this (by simp)

/-- A sum of nonnegative reals times one extended real. -/
theorem sum_coe_mul {ι : Type} (s : Finset ι) (p : ι → ℝ) (hp : ∀ k, 0 ≤ p k) (v : EReal) :
    ∑ k ∈ s, (p k : EReal) * v = ((∑ k ∈ s, p k : ℝ) : EReal) * v := by
  classical
  induction s using Finset.induction_on with
  | empty => simp
  | insert a s ha ih =>
    rw [Finset.sum_insert ha, Finset.sum_insert ha, ih, EReal.coe_add,
      EReal.right_distrib_of_nonneg (EReal.coe_nonneg.2 (hp a)) (EReal.coe_nonneg.2 (Finset.sum_nonneg fun k _ => hp k))]

/-- A sum of nonnegative reals, taken in the extended reals, is the real sum. -/
theorem coe_sum {ι : Type} (s : Finset ι) (p : ι → ℝ) (hp : ∀ k, 0 ≤ p k) :
    ∑ k ∈ s, (p k : EReal) = ((∑ k ∈ s, p k : ℝ) : EReal) := by
  simpa only [mul_one] using sum_coe_mul s p hp 1

/-- The softmax of finite affinities is real numbers, none negative, of sum one. -/
theorem softmax_real {l : Fin 32 → EReal} (hl : ∀ k, ∃ r : ℝ, l k = r) :
    ∃ p : Fin 32 → ℝ, (∀ k, 0 ≤ p k) ∧ ∑ k, p k = 1 ∧ ∀ k, softmax l k = p k := by
  obtain ⟨t, ht⟩ := top_real hl
  choose r hr using hl
  have he : ∀ k, exps l k = (Real.exp (r k - t) : ℝ) := fun k => by
    rw [exps, ht, hr, ← EReal.coe_sub, Ideal.exp_coe]
  have hs : ∑ k, exps l k = ((∑ k, Real.exp (r k - t) : ℝ) : EReal) := by
    rw [← coe_sum _ _ fun k => (Real.exp_pos _).le]; exact Finset.sum_congr rfl fun k _ => he k
  have hpos : 0 < ∑ k, Real.exp (r k - t) := Finset.sum_pos (fun k _ => Real.exp_pos _) ⟨0, Finset.mem_univ _⟩
  refine ⟨fun k => Real.exp (r k - t) * (1 / ∑ k, Real.exp (r k - t)), fun k => by positivity, ?_, fun k => ?_⟩
  · rw [← Finset.sum_mul, mul_one_div_cancel hpos.ne']
  · rw [softmax, hs, Ideal.div_coe hpos.ne', he, EReal.coe_mul]

/-- The renormalised softmax of finite affinities, summed against one value, is the value scaled. -/
theorem weighted {l : Fin 32 → EReal} (hl : ∀ k, ∃ r : ℝ, l k = r) (v : EReal) :
    ∑ k, renormed (softmax l) k * v = v * Row.scale := by
  obtain ⟨p, hp, h1, h⟩ := softmax_real hl
  obtain ⟨s, hs, hd⟩ := Row.scale_real
  have hsum : ∑ k, softmax l k = 1 := by
    rw [Finset.sum_congr rfl fun k _ => h k, coe_sum _ _ hp, h1, EReal.coe_one]
  have hterm : ∀ k, renormed (softmax l) k * v = (p k : EReal) * (v * Row.scale) := fun k => by
    rw [renormed, hsum, hd, h, mul_assoc, mul_comm Row.scale]
  rw [Finset.sum_congr rfl fun k _ => hterm k, sum_coe_mul _ _ hp, h1, EReal.coe_one, one_mul]

end Cert.Softmax

end
-- ==== Proof.RefRow.lean ====
/-
  The reference's stages read at an index over the extended reals: each row's layer normalisation and feed-forward
  block, the sum over the neighbours, and the normalised weights.
-/
module

public import proofs.«01_k».proof.Proof.RefTerms
public import proofs.«01_k».proof.Proof.Softmax

@[expose] public section

set_option maxRecDepth 16384

noncomputable section

namespace Cert.RefRow

open Cert.ReferenceIdeal Cert.ReferenceIdeal.Gen Idealize.ShloMosaic Cert.RefTerms

/-- The feed-forward block of a row. -/
theorem feedForward_row (h : Arr Ideal S8x2048x128 .f32) (W1 W2 : Arr Ideal S128x512 .f32) (W3 : Arr Ideal S512x128 .f32)
    (x : Arr Ideal S8x2048x128 .f32) (b : Fin 8) (n : Fin 2048) (j : Fin 128) : feedForward h W1 W2 W3 x (ix3 b n j) =
      Row.feedForward (fun k => h (ix3 b n k)) (fun k f => W1 (ix2 k f)) (fun k f => W2 (ix2 k f)) (fun f j => W3 (ix2 f j))
        (fun j => x (ix3 b n j)) j := by
  pointwise [feedForward, silu]
  simp only [Row.feedForward, Row.gated]
  rfl

/-- The values of a row. -/
theorem values_row (x : Arr Ideal S8x2048x128 .f32) (W : Arr Ideal S128x128 .f32) (v : Arr Ideal S128 .f32)
    (b : Fin 8) (n : Fin 2048) (j : Fin 128) : values x W v (ix3 b n j) =
      Row.value (fun k => x (ix3 b n k)) (fun k j => W (ix2 k j)) (fun j => v (ix1 j)) j := by
  pointwise [values, perChannel]
  rfl

/-- The mean of a row. -/
theorem mean_row (u : Arr Ideal S8x2048x128 .f32) (b : Fin 8) (n : Fin 2048) :
    mean u (ix3 b n 0) = Row.mean (fun j => u (ix3 b n j)) := by
  pointwise [mean, rowSum, column]
  rfl

/-- A row less its mean. -/
theorem centred_row (u : Arr Ideal S8x2048x128 .f32) (b : Fin 8) (n : Fin 2048) (j : Fin 128) :
    centred u (ix3 b n j) = Row.centred (fun j => u (ix3 b n j)) j := by
  rw [Row.centred, ← mean_row]
  pointwise [centred, overChannels]

/-- The sum over the neighbours. -/
theorem update_row (a : Arr Ideal S8x2048x8x32 .f32) (v : Arr Ideal S8x2048x128 .f32) (b : Fin 8) (n : Fin 2048) (j : Fin 128) :
    update a v (ix3 b n j) = ∑ k : Fin 32, a (ix4 b n ⟨j.val / 16, by omega⟩ k) * v (ix3 b n j) := by
  pointwise [update]

/-- The count of channels, none given up, is the number of channels. -/
theorem count_eq : Row.chans - FloatOps.sitofp (F := Ideal) .f32 0#32 = Row.chans := by
  rw [show FloatOps.sitofp (F := Ideal) .f32 0#32 = (((0#32 : BitVec 32).toInt : ℝ) : EReal) from rfl]
  simp

/-- The count of channels is positive. -/
theorem count_pos : 0 < Row.chans - FloatOps.sitofp (F := Ideal) .f32 0#32 := by
  rw [count_eq, Row.chans_eq]; exact_mod_cast (by norm_num : (0 : ℝ) < 128)

/-- The normalisation's variance of a row. -/
theorem variance_row (u : Arr Ideal S8x2048x128 .f32) (b : Fin 8) (n : Fin 2048) :
    variance u (ix3 b n 0) = Row.variance (fun j => u (ix3 b n j)) := by
  simp only [Row.variance, ← centred_row]
  pointwise [variance, rowSum, column, RefTerms.count]
  rw [if_pos count_pos, count_eq]

/-- The layer normalisation of a row. -/
theorem layerNorm_row (u : Arr Ideal S8x2048x128 .f32) (g c : Arr Ideal S128 .f32) (b : Fin 8) (n : Fin 2048) (j : Fin 128) :
    layerNorm u g c (ix3 b n j) = Row.normed (fun j => u (ix3 b n j)) (fun j => g (ix1 j)) (fun j => c (ix1 j)) j := by
  rw [Row.normed, ← Row.div_sqrt (Row.variance_nonneg _), ← centred_row, ← variance_row]
  pointwise [layerNorm, perChannel, overChannels, column]

/-- The largest over the last of four axes. -/
theorem max_last {A B C K : Nat} (h : (⟨4, ![A, B, C, K]⟩ : Shape).ReducesTo [3] ⟨3, ![A, B, C]⟩)
    (x : FVec Ideal ⟨4, ![A, B, C, K]⟩ .f32) (init : FVec Ideal S_ .f32) (hu : 0 < S_.numel) (a : Fin A) (b : Fin B) (c : Fin C) :
    Host.reduce FloatOps.maximumf x init h hu (ix3 a b c) =
      Finset.univ.fold max (init (Shape.Idx.first hu)) fun k => x (ix4 a b c k) := by
  simp only [pointwise]

/-- The largest over the neighbours of a head. -/
theorem peak_row (l : Arr Ideal S8x2048x8x32 .f32) (b : Fin 8) (n : Fin 2048) (h : Fin 8) :
    peak l (ix3 b n h) = Finset.univ.fold max Softmax.low fun k => l (ix4 b n h k) :=
  max_last reducesTo_S8x2048x8x32_S8x2048x8_d3 l (constant S_ .f32 0xFF800000#32) h_S_ b n h

/-- A constant repeated over the heads. -/
theorem constant_row (w : BitVec 32) (b : Fin 8) (n : Fin 2048) (h : Fin 8) :
    broadcastInDim S8x2048x8 ![] bcast_S_S8x2048x8 (constant (F := Ideal) S_ .f32 w) (ix3 b n h) = Ideal.ofBits .f32 w := rfl

/-- The largest affinity of a head. -/
theorem largest_row (l : Arr Ideal S8x2048x8x32 .f32) (b : Fin 8) (n : Fin 2048) (h : Fin 8) :
    largest l (ix3 b n h) = Softmax.top (fun k => l (ix4 b n h k)) := by
  rw [Softmax.top, ← peak_row, largest, maximumf_apply, Ideal.maximumf_def, constant_row]

/-- The exponentials of a head. -/
theorem exps_row (l : Arr Ideal S8x2048x8x32 .f32) (b : Fin 8) (n : Fin 2048) (h : Fin 8) (k : Fin 32) :
    exps l (ix4 b n h k) = Softmax.exps (fun k => l (ix4 b n h k)) k := by
  rw [Softmax.exps, ← largest_row]
  rw [exps]
  generalize largest l = p
  pointwise [spread]

/-- The softmax of a head. -/
theorem softmax_row (l : Arr Ideal S8x2048x8x32 .f32) (b : Fin 8) (n : Fin 2048) (h : Fin 8) (k : Fin 32) :
    softmax l (ix4 b n h k) = Softmax.softmax (fun k => l (ix4 b n h k)) k := by
  simp only [Softmax.softmax, ← exps_row]
  rw [RefTerms.softmax]
  generalize exps l = e
  pointwise [spread, total]

/-- The masked weights of a head. -/
theorem masked_row (p : Arr Ideal S8x2048x8x32 .f32) (m : Arr Ideal S8x2048x32 .f32) (b : Fin 8) (n : Fin 2048) (h : Fin 8)
    (k : Fin 32) : masked p m (ix4 b n h k) = p (ix4 b n h k) * m (ix3 b n k) := by
  pointwise [masked]

/-- The renormalised weights of a head. -/
theorem renormed_row (a : Arr Ideal S8x2048x8x32 .f32) (b : Fin 8) (n : Fin 2048) (h : Fin 8) (k : Fin 32) :
    renormed a (ix4 b n h k) = Softmax.renormed (fun k => a (ix4 b n h k)) k := by
  pointwise [renormed, total]
  rfl

/-- The row mask. -/
theorem rowMask_row (m : Arr Ideal S8x2048 .i1) (b : Fin 8) (n : Fin 2048) (k : Fin 32) :
    rowMask (F := Ideal) m (ix3 b n k) = maskF (F := Ideal) m (ix2 b n) := by
  pointwise [rowMask]

/-- The affinities of a head: `x.reshape` regroups the neighbours and the heads. -/
theorem logits_row (e : Arr Ideal S8x2048x32x128 .f32) (W : Arr Ideal S128x8 .f32) (c : Arr Ideal S8 .f32)
    (b : Fin 8) (n : Fin 2048) (h : Fin 8) (k : Fin 32) : logits e W c (ix4 b n h k) =
      (∑ i : Fin 128, e (ix4 b n ⟨h.val * 4 + k.val / 8, by omega⟩ i) * W (ix2 i ⟨k.val % 8, by omega⟩)) +
        c (ix1 ⟨k.val % 8, by omega⟩) := by
  pointwise [logits]

end Cert.RefRow

end
-- ==== Proof.Indices.lean ====
/-
  The reference's neighbour indices: each nearest index lies in the table, so a gathered row is always a row of the
  table; and where the mask is all ones the neighbours' mask is too.
-/
module

public import proofs.«01_k».proof.Proof.RefTerms
public import Idealize.ShloMosaic.Lib.Pointwise

@[expose] public section

set_option maxRecDepth 16384

noncomputable section

namespace Cert.Indices

open Cert.ReferenceIdeal Cert.ReferenceIdeal.Gen Idealize.ShloMosaic Cert.RefTerms

/-- A property of every element that a fold's body keeps holds of the fold. -/
theorem foldl_keeps {α β : Type} (P : α → Prop) (f : α → β → α) (hf : ∀ a b, P a → P (f a b)) (l : List β) (a : α)
    (h : P a) : P (l.foldl f a) := by
  induction l generalizing a with
  | nil => exact h
  | cons b l ih => exact ih _ (hf _ _ h)

/-- An arg-min's indices have a property that its body keeps and that its operands have. -/
theorem argReduce_keeps {β : Type} {s t u : Shape} {axes : List (Fin s.rank)} (P : β → Prop)
    (f : Ideal .f32 × β → Ideal .f32 × β → Ideal .f32 × β) (hf : ∀ a b, P a.2 → P b.2 → P (f a b).2)
    (x : FVec Ideal s .f32) (y : s.Idx → β) (ix : u.Idx → Ideal .f32) (iy : u.Idx → β)
    (h : s.ReducesTo axes t) (hu : 0 < u.numel) (hy : ∀ i, P (y i)) (hi : ∀ i, P (iy i)) (j : t.Idx) :
    P (second (Host.argReduce f x y ix iy h hu) j) := by
  rw [second]
  rw [Ideal.argReduce_eq_reduce2]
  exact foldl_keeps (fun r : Ideal .f32 × β => P r.2) _ (fun a n ha => hf _ _ ha (hy _)) _ _ (hi _)

/-- The body of the arg-min returns one of its two indices. -/
theorem body_keeps (P : BitVec 32 → Prop) (a b : Ideal .f32 × BitVec 32) (ha : P a.2) (hb : P b.2) :
    P (reducer_argmin_f32_i32 a b).2 := by
  simp only [reducer_argmin_f32_i32, Scalar.select]
  split <;> assumption

/-- The nearest index has every property that the row numbers and zero have. -/
theorem nearest_keeps (P : BitVec 32 → Prop) (gap : Arr Ideal S8x2048x32x128 .f32)
    (hy : ∀ i, P (iotaInDim S8x2048x32x128 32 3 i)) (hi : ∀ i, P (constantI S_ 32 0#32 i)) (j : S8x2048x32.Idx) :
    P (nearest gap j) :=
  argReduce_keeps P reducer_argmin_f32_i32 (body_keeps P) gap (iotaInDim S8x2048x32x128 32 3)
    (constant S_ .f32 0x7F800000#32) (constantI S_ 32 0#32) reducesTo_S8x2048x32x128_S8x2048x32_d3 h_S_ hy hi j

/-- The nearest index is below the number of rows. -/
theorem nearest_lt (gap : Arr Ideal S8x2048x32x128 .f32) (j : S8x2048x32.Idx) : (nearest gap j).toNat < 128 := by
  refine nearest_keeps (fun w => w.toNat < 128) gap (fun i => ?_) (fun i => ?_) j
  · have h : (i 3).val < 128 := (i 3).isLt
    rw [iotaInDim, BitVec.toNat_ofNat]
    omega
  · rw [constantI]; decide

/-- A reduction by `and` of ones is one. -/
theorem reduce_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 :=
  foldl_keeps (fun r => r = 1#1) _ (fun a n ha => by rw [ha, hx]; rfl) _ _ (hi _)

/-- A small index is not negative. -/
theorem slt_zero {w : BitVec 32} (hw : w.toNat < 128) : IntOp.cmpi .slt w 0#32 = 0#1 := by
  simp only [IntOp.cmpi]
  have : w.slt 0#32 = false := by
    rw [BitVec.slt, decide_eq_false_iff_not, BitVec.toInt_eq_toNat_of_lt (by omega)]
    simp
  simp [this]

/-- A small index is at least zero and at most the last row's number. -/
theorem in_range {w : BitVec 32} (hw : w.toNat < 128) : IntOp.andi (IntOp.cmpi .sge w 0#32) (IntOp.cmpi .sle w 127#32) = 1#1 := by
  have h0 : IntOp.cmpi .sge w 0#32 = 1#1 := by
    simp only [IntOp.cmpi]
    have : (0#32).sle w = true := by
      rw [BitVec.sle, decide_eq_true_iff, BitVec.toInt_eq_toNat_of_lt (x := w) (by omega)]
      simp
    simp [this]
  have h1 : IntOp.cmpi .sle w 127#32 = 1#1 := by
    simp only [IntOp.cmpi]
    have : w.sle 127#32 = true := by
      rw [BitVec.sle, decide_eq_true_iff, BitVec.toInt_eq_toNat_of_lt (x := w) (by omega)]
      simp; omega
    simp [this]
  rw [h0, h1]; rfl

/-- An index in the table stays in it when the negative ones are wrapped round. -/
theorem wrapped_lt (i : Arr Ideal S8x2048x32 .i32) (hi : ∀ j, (i j).toNat < 128) (j : S8x2048x32x1.Idx) :
    (wrapped (F := Ideal) 128#32 i j).toNat < 128 := by
  have e : ∃ p, wrapped (F := Ideal) 128#32 i j =
      Scalar.select (IntOp.cmpi .slt (i p) 0#32) (IntOp.addi (i p) 128#32) (i p) := ⟨_, rfl⟩
  obtain ⟨p, e⟩ := e
  rw [e, slt_zero (hi p)]
  exact hi p

/-- Indices below the number of rows lie in the table. -/
theorem inTable_eq (w : Arr Ideal S8x2048x32x1 .i32) (hw : ∀ j, (w j).toNat < 128) (j : S8x2048x32.Idx) :
    inTable (F := Ideal) w j = 1#1 :=
  reduce_ones _ _ _ _ (fun i => in_range (hw i)) (fun _ => rfl) j

/-- Selecting by ones from a gather reads the table. -/
theorem select_gather {s si t : Shape} {w : Nat} {α : Type} (m : t.Idx → BitVec 1) (d : GatherDims s si t) (x : s.Idx → α)
    (idx : IVec si w) (z : t.Idx → α) (j : t.Idx) (hm : m j = 1#1) : ∃ p, select m (Host.gather d x idx) z j = x p :=
  ⟨d.operandIdx j idx, by show Scalar.select (m j) _ _ = _; rw [hm]; rfl⟩

/-- An array of ones repeated along new axes is ones. -/
theorem broadcast_ones {s t : Shape} (x : s.Idx → BitVec 1) (hx : ∀ i, x i = 1#1) (dims : Fin s.rank → Fin t.rank)
    (h : s.BroadcastsInDim t dims) (j : t.Idx) : broadcastInDim t dims h x j = 1#1 :=
  hx _

/-- A row gathered at indices below the number of rows is made of the table's entries. -/
theorem rows_mem (tbl : Arr Ideal S128x128 .f32) (i : Arr Ideal S8x2048x32 .i32) (hi : ∀ j, (i j).toNat < 128)
    (j : S8x2048x32x128.Idx) : ∃ p, rows tbl i j = tbl p :=
  select_gather _ _ _ _ _ _ (broadcast_ones _ (inTable_eq _ (wrapped_lt i hi)) _ _ j)

/-- The mask as numbers is one where the mask is all ones. -/
theorem maskF_one (k : Arr Ideal S8x2048 .i1) (hk : k = fun _ => 1#1) (j : S8x2048.Idx) : maskF (F := Ideal) k j = 1 := by
  subst hk
  show (((1#1 : BitVec 1).toNat : ℝ) : EReal) = 1
  simp

/-- The neighbours' mask is one where the mask is all ones. -/
theorem nbrMask_one (k : Arr Ideal S8x2048 .i1) (hk : k = fun _ => 1#1) (i : Arr Ideal S8x2048x32 .i32) (j : S8x2048x32.Idx) :
    nbrMask (F := Ideal) k i j = 1 :=
  maskF_one k hk _

end Cert.Indices

end
-- ==== Proof.RefValue.lean ====
/-
  The reference's result, row by row, where the affinities are finite and the mask is all ones: the row mathematics
  of each row, whatever the gaps and the neighbours are.
-/
module

public import proofs.«01_k».proof.Proof.RefRun
public import proofs.«01_k».proof.Proof.RefRow
public import proofs.«01_k».proof.Proof.Indices

@[expose] public section

set_option maxRecDepth 16384

noncomputable section

namespace Cert.RefValue

open Cert.ReferenceIdeal Cert.ReferenceIdeal.Gen Idealize.ShloMosaic Cert.RefTerms

/-- Every entry of an array is a real. -/
def Finite {s : Shape} (x : s.Idx → EReal) : Prop := ∀ i, ∃ r : ℝ, x i = r

/-- A finite sum of reals is a real. -/
theorem sum_real {ι : Type} (s : Finset ι) (f : ι → EReal) (hf : ∀ i, ∃ r : ℝ, f i = r) : ∃ r : ℝ, ∑ i ∈ s, f i = r := by
  classical
  induction s using Finset.induction_on with
  | empty => exact ⟨0, by simp⟩
  | insert a s ha ih =>
    obtain ⟨x, hx⟩ := hf a
    obtain ⟨y, hy⟩ := ih
    exact ⟨x + y, by rw [Finset.sum_insert ha, hx, hy, EReal.coe_add]⟩

variable {tbl : Arr Ideal S128x128 .f32} {W : Arr Ideal S128x8 .f32} {c : Arr Ideal S8 .f32}

/-- The affinities of a head are finite. -/
theorem logits_real (ht : Finite tbl) (hW : Finite W) (hc : Finite c) (gap : Arr Ideal S8x2048x32x128 .f32)
    (b : Fin 8) (n : Fin 2048) (h : Fin 8) (k : Fin 32) :
    ∃ r : ℝ, logits (rows tbl (nearest gap)) W c (ix4 b n h k) = r := by
  rw [RefRow.logits_row]
  obtain ⟨z, hz⟩ := hc (ix1 ⟨k.val % 8, by omega⟩)
  obtain ⟨y, hy⟩ := sum_real Finset.univ (fun i : Fin 128 =>
    rows tbl (nearest gap) (ix4 b n ⟨h.val * 4 + k.val / 8, by omega⟩ i) * W (ix2 i ⟨k.val % 8, by omega⟩)) fun i => by
      obtain ⟨p, hp⟩ := Indices.rows_mem tbl (nearest gap) (Indices.nearest_lt gap)
        (ix4 b n ⟨h.val * 4 + k.val / 8, by omega⟩ i)
      obtain ⟨u, hu⟩ := ht p
      obtain ⟨v, hv⟩ := hW (ix2 i ⟨k.val % 8, by omega⟩)
      exact ⟨u * v, by rw [hp, hu, hv, EReal.coe_mul]⟩
  exact ⟨y + z, by rw [hy, hz, EReal.coe_add]⟩

/-- The sum over the neighbours is the value scaled. -/
theorem update_eq (ht : Finite tbl) (hW : Finite W) (hc : Finite c) (gap : Arr Ideal S8x2048x32x128 .f32)
    (idx : Arr Ideal S8x2048x32 .i32) (m : Arr Ideal S8x2048 .i1) (hm : m = fun _ => 1#1) (v : Arr Ideal S8x2048x128 .f32)
    (b : Fin 8) (n : Fin 2048) (j : Fin 128) :
    update (RefRun.weights gap idx m tbl W c) v (ix3 b n j) = v (ix3 b n j) * Row.scale := by
  rw [RefRow.update_row, ← Softmax.weighted (logits_real ht hW hc gap b n ⟨j.val / 16, by omega⟩)]
  refine Finset.sum_congr rfl fun k _ => congrArg (· * v (ix3 b n j)) ?_
  rw [RefRun.weights, RefRow.renormed_row]
  refine congrFun (congrArg Softmax.renormed (funext fun k => ?_)) k
  rw [RefRow.masked_row, RefRow.softmax_row, mulf_apply, Ideal.mulf_def, RefRow.rowMask_row, Indices.maskF_one m hm,
    Indices.nbrMask_one m hm, mul_one, mul_one]

/-- The reference's result at a row. -/
theorem result_row (ht : Finite tbl) (hW : Finite W) (hc : Finite c) (gap : Arr Ideal S8x2048x32x128 .f32)
    (idx : Arr Ideal S8x2048x32 .i32) (m : Arr Ideal S8x2048 .i1) (hm : m = fun _ => 1#1) (x : Arr Ideal S8x2048x128 .f32)
    (vW : Arr Ideal S128x128 .f32) (vb g lb : Arr Ideal S128 .f32) (W1 W2 : Arr Ideal S128x512 .f32)
    (W3 : Arr Ideal S512x128 .f32) (b : Fin 8) (n : Fin 2048) (j : Fin 128) :
    feedForward (layerNorm (update (RefRun.weights gap idx m tbl W c) (values x vW vb)) g lb) W1 W2 W3 x (ix3 b n j) =
      Row.block (fun k => x (ix3 b n k)) (fun k j => vW (ix2 k j)) (fun j => vb (ix1 j)) (fun j => g (ix1 j))
        (fun j => lb (ix1 j)) (fun k f => W1 (ix2 k f)) (fun k f => W2 (ix2 k f)) (fun f j => W3 (ix2 f j)) j := by
  rw [RefRow.feedForward_row, Row.block]
  simp only [RefRow.layerNorm_row, update_eq ht hW hc gap idx m hm, RefRow.values_row]

end Cert.RefValue

end
-- ==== Proof.Precondition.lean ====
/-
  What the precondition says: the mask is all ones, and the table, the weights and the bias of the affinities are finite.
-/
module

public import proofs.«01_k».proof.Pre_finite_affinities_no_padding
public import proofs.«01_k».proof.Proof.RefValue
public import Idealize.ShloMosaic.Lib.KernelVsHost

@[expose] public section

noncomputable section

namespace Cert.Precondition

open Idealize.ShloMosaic Cert.Pre_finite_affinities_no_padding

/-- The broadcasts that the precondition takes are broadcasts. -/
instance facts : Cert.Pre_finite_affinities_no_padding.Facts where
  bcast_S_S128x128 := by decide
  bcast_S_S128x8 := by decide
  bcast_S_S8 := by decide

/-- A value whose absolute value lies below infinity is a real. -/
theorem real_of_below (x : EReal)
    (h : FloatOps.cmpf (F := Ideal) (φ := .f32) .olt (FloatOps.hostAbsf x) (FloatOps.ofBits .f32 0x7F800000#32) = 1#1) :
    ∃ r : ℝ, x = r := by
  rw [← Ideal.xori_weird_eq_hostAbsf_olt_inf] at h
  have hx : ¬ (x = ⊤ ∨ x = ⊥) := by
    intro hx
    have hw : FloatOps.weird (F := Ideal) (x : Ideal .f32) = 1#1 := by
      show BitVec.ofBool (decide ((x : EReal) = ⊤ ∨ (x : EReal) = ⊥)) = 1#1
      rw [decide_eq_true hx]; rfl
    rw [hw] at h
    exact absurd h (by decide)
  push Not at hx
  exact ⟨x.toReal, (EReal.coe_toReal hx.1 hx.2).symm⟩

/-- An array whose absolute values all lie below infinity is finite. -/
theorem finite_of_below {s : Shape} (x : FVec Ideal s .f32) (h : S_.BroadcastsInDim s (![] : Fin 0 → Fin s.rank))
    (hx : cmpf .olt (Host.absf x) (broadcastInDim s ![] h (constant (F := Ideal) S_ .f32 0x7F800000#32)) = fun _ => 1#1) :
    RefValue.Finite x := fun i => real_of_below (x i) (congrFun hx i)

end Cert.Precondition

end
-- ==== Proof.RefFrame.lean ====
/-
  The run of the reference: it ends, every argument as it was, every counter at zero, and the result at what the line
  of operations leaves there.
-/
module

public import proofs.«01_k».proof.Proof.RefRun
public import Idealize.ShloMosaic.Lib.Quiescent
public import Idealize.ShloMosaic.Lib.StableHlo.RunHlo

@[expose] public section

set_option maxRecDepth 8192

noncomputable section

namespace Cert.RefFrame

open Cert.ReferenceIdeal Cert.ReferenceIdeal.Gen Idealize.ShloMosaic Idealize.ShloMosaic.TcCoe Idealize.SL.Sem
  Idealize.ShloMosaic.StableHlo Cert.RefLine Cert.RefRun

variable {F : FTy → Type} [FloatOps F]

/-- The reference ends with its arguments as they were, its result where the line leaves it, and every counter at zero. -/
theorem ends (m : (ℓ : Loc nD τ sig) → Buf (Elt F) ℓ) (ρ : Dev nD → PrngReg) :
    θ_run (defs (F := F)) (onTc (τ := τ) main) ⟨m, fun _ => 0, ρ⟩ fun r =>
      (∀ c : Dev nD, r.2.mem ((c.tc : Thread nD τ).loc main_v94) = after ops (launchContents m c) (Proc.devRef .tc main_v94)
        ∧ ∀ b ∈ args, r.2.mem ((c.tc : Thread nD τ).loc b) = m ((c.tc : Thread nD τ).loc b))
      ∧ r.2.sem = fun _ => 0 :=
  θ_run_mono (RefLine.run m ρ) fun r h => ⟨fun c => ⟨h c main_v94, fun b hb => (h c b).trans (ops_args _ hb)⟩,
    sem_eq_zero_of_no_sems (by decide) _⟩

end Cert.RefFrame

end
-- ==== Proof.Block.lean ====
/-
  What one block of the kernel computes: each row of the written block is the row mathematics of that row of the read one.
-/
module

public import proofs.«01_k».proof.Proof.Gen.KernelIdeal.Skeleton
public import proofs.«01_k».proof.Proof.Row

@[expose] public section

set_option maxRecDepth 16384

noncomputable section

namespace Cert.Block

open Cert.KernelIdeal Cert.KernelIdeal.Gen Idealize.ShloMosaic

/-- The normalised rows. -/
theorem normed_rows (X : FVec Ideal S4096x128 .f32) (W : FVec Ideal S128x128 .f32) (b g c : FVec Ideal S1x128 .f32)
    (r : Fin 4096) (j : Fin 128) : k0_pay3 (F := Ideal) X W b g c (ix2 r j) =
      Row.normed (fun j => Row.value (fun k => X (ix2 r k)) (fun k j => W (ix2 k j)) (fun j => b (ix2 0 j)) j * Row.scale)
        (fun j => g (ix2 0 j)) (fun j => c (ix2 0 j)) j := by
  pointwise [k0_pay3, k0_pay2]
  simp only [Row.normed, Row.centred, Row.variance, Row.mean, Row.value, Row.scale]

/-- The written rows, from the normalised ones. -/
theorem written_rows (X H : FVec Ideal S4096x128 .f32) (W1 W2 : FVec Ideal S128x512 .f32) (W3 : FVec Ideal S512x128 .f32)
    (r : Fin 4096) (j : Fin 128) : k0_pay1 (F := Ideal) X H W1 (constant S4096x512 .f32 0x00000000#32) W2 W3 (ix2 r j) =
      Row.feedForward (fun k => H (ix2 r k)) (fun k f => W1 (ix2 k f)) (fun k f => W2 (ix2 k f)) (fun f j => W3 (ix2 f j))
        (fun j => X (ix2 r j)) j := by
  pointwise [k0_pay1]
  simp only [Row.feedForward, Row.gated]

/-- The written block, row by row. -/
theorem rows (X : FVec Ideal S4096x128 .f32) (W : FVec Ideal S128x128 .f32) (b g c : FVec Ideal S1x128 .f32)
    (W1 W2 : FVec Ideal S128x512 .f32) (W3 : FVec Ideal S512x128 .f32) (r : Fin 4096) (j : Fin 128) :
    k0_pay1 (F := Ideal) (k0_pay2 X) (k0_pay3 X W b g c) W1 (constant S4096x512 .f32 0x00000000#32) W2 W3 (ix2 r j) =
      Row.block (fun k => X (ix2 r k)) (fun k j => W (ix2 k j)) (fun j => b (ix2 0 j)) (fun j => g (ix2 0 j))
        (fun j => c (ix2 0 j)) (fun k f => W1 (ix2 k f)) (fun k f => W2 (ix2 k f)) (fun f j => W3 (ix2 f j)) j := by
  rw [written_rows, Row.block]
  simp only [normed_rows]
  congr 1
  funext j
  pointwise [k0_pay2]

end Cert.Block

end
-- ==== Proof.KernelArray.lean ====
/-
  What the kernel's array holds after the run: every row is the row mathematics of the input's row, the blocks of 4096
  rows covering the array.
-/
module

public import proofs.«01_k».proof.Proof.Gen.KernelIdeal.Frame
public import proofs.«01_k».proof.Proof.Block
public import Idealize.ShloMosaic.Lib.Pipeline.ValueKit
public import Idealize.ShloMosaic.Lib.Claim

@[expose] public section

set_option maxRecDepth 16384

noncomputable section

namespace Cert.KernelArray

open Cert.KernelIdeal Cert.KernelIdeal.Gen Idealize.ShloMosaic Idealize.ShloMosaic.TcCoe

/-- The row mathematics of every row of an array. -/
def array (X : FVec Ideal S16384x128 .f32) (W : FVec Ideal S128x128 .f32) (b g c : FVec Ideal S1x128 .f32)
    (W1 W2 : FVec Ideal S128x512 .f32) (W3 : FVec Ideal S512x128 .f32) : FVec Ideal S16384x128 .f32 := fun y =>
  Row.block (fun k => X (ix2 (y 0) k)) (fun k j => W (ix2 k j)) (fun j => b (ix2 0 j)) (fun j => g (ix2 0 j))
    (fun j => c (ix2 0 j)) (fun k f => W1 (ix2 k f)) (fun k f => W2 (ix2 k f)) (fun f j => W3 (ix2 f j)) (y 1)

variable (m : (ℓ : Loc nD τ sig) → Buf (Elt Ideal) ℓ)

/-- The blocks' places: the input's and the result's at the grid point, the others at the origin. -/
theorem places : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![t.val, 0] := by decide +kernel

/-- The window's array after the run. -/
theorem final (c : Dev nD) : (dats m 0 c).arrAt 8 cfg0.N =
    array (V m c main_v0) (V m c main_arg4) (V m c main_v1) (V m c main_v2) (V m c main_v3) (V m c main_arg11)
      (V m c main_arg12) (V m c main_arg13) := by
  refine (dats m 0 c).arrAt_eq_of_covers 8 _ (by decide +kernel) fun t hf y => ?_
  blk_simp
  rw [after0_8]
  frame_out
  idx_vars y
  rw [Block.rows]
  unfold array
  congr 1
  · funext k; blk_ext [iblk, V, places t]
  · funext k j; blk_ext [iblk, V, places t]
  · funext j; blk_ext [iblk, V, places t]
  · funext j; blk_ext [iblk, V, places t]
  · funext j; blk_ext [iblk, V, places t]
  · funext k f; blk_ext [iblk, V, places t]
  · funext k f; blk_ext [iblk, V, places t]
  · funext f j; blk_ext [iblk, V, places t]
  · refine Fin.ext ?_
    blk_simp [places t]

end Cert.KernelArray

end
-- ==== Proof.KernelValue.lean ====
/-
  The kernel's result, row by row: its array, read back as batches, holds the row mathematics of the arguments' rows.
-/
module

public import proofs.«01_k».proof.Proof.KernelArray

@[expose] public section

set_option maxRecDepth 16384

noncomputable section

namespace Cert.KernelValue

open Cert.KernelIdeal Cert.KernelIdeal.Gen Idealize.ShloMosaic Idealize.ShloMosaic.TcCoe Cert.KernelArray

variable (m : (ℓ : Loc nD τ sig) → Buf (Elt Ideal) ℓ)

/-- The rows' array is the batches' array laid out row after row. -/
theorem rows_in (c : Dev nD) : V m c main_v0 =
    shapeCast S16384x128 (m ((c : Thread nD τ).loc main_arg0)) shapeCasts_S8x2048x128_S16384x128 := by
  simp only [V, V0, hostOps0, List.flatten_cons, List.flatten_nil, List.append_nil]
  after_results
  rfl

/-- The value bias is the argument as one row. -/
theorem bias_in (c : Dev nD) : V m c main_v1 =
    shapeCast S1x128 (m ((c : Thread nD τ).loc main_arg5)) shapeCasts_S128_S1x128 := by
  simp only [V, V0, hostOps0, List.flatten_cons, List.flatten_nil, List.append_nil]
  after_results
  rfl

/-- The gain is the argument as one row. -/
theorem gain_in (c : Dev nD) : V m c main_v2 =
    shapeCast S1x128 (m ((c : Thread nD τ).loc main_arg9)) shapeCasts_S128_S1x128 := by
  simp only [V, V0, hostOps0, List.flatten_cons, List.flatten_nil, List.append_nil]
  after_results
  rfl

/-- The offset is the argument as one row. -/
theorem offset_in (c : Dev nD) : V m c main_v3 =
    shapeCast S1x128 (m ((c : Thread nD τ).loc main_arg10)) shapeCasts_S128_S1x128 := by
  simp only [V, V0, hostOps0, List.flatten_cons, List.flatten_nil, List.append_nil]
  after_results
  rfl

/-- The kernel's result is its array read back as batches. -/
theorem result_out (c : Dev nD) : Pipeline.afterTail₀ cfgs (dats m) 0 (V0 m) [hostOps1] c main_v5 =
    shapeCast S8x2048x128 ((dats m 0 c).arrAt 8 cfg0.N) shapeCasts_S16384x128_S8x2048x128 := by
  unfold Pipeline.afterTail₀
  simp only [hostOps1, List.flatten_cons, List.flatten_nil, List.append_nil]
  after_results
  exact congrArg (fun X => shapeCast S8x2048x128 X shapeCasts_S16384x128_S8x2048x128)
    (Pipeline.withArrays_arr (cfgs 0).spec (by decide) c (V0 m c) (fun w => (dats m 0 c).arrAt w (cfgs 0).N) 8)

/-- The row mathematics of the rows laid out row after row, read back as batches. -/
theorem batches (x : FVec Ideal S8x2048x128 .f32) (W : FVec Ideal S128x128 .f32) (b g c : FVec Ideal S128 .f32)
    (W1 W2 : FVec Ideal S128x512 .f32) (W3 : FVec Ideal S512x128 .f32)
    (h0 : S8x2048x128.ShapeCasts S16384x128) (h1 : S128.ShapeCasts S1x128) (h2 : S16384x128.ShapeCasts S8x2048x128)
    (p : Fin 8) (n : Fin 2048) (j : Fin 128) :
    shapeCast S8x2048x128 (array (shapeCast S16384x128 x h0) W (shapeCast S1x128 b h1) (shapeCast S1x128 g h1)
        (shapeCast S1x128 c h1) W1 W2 W3) h2 (ix3 p n j) =
      Row.block (fun k => x (ix3 p n k)) (fun k j => W (ix2 k j)) (fun j => b (ix1 j)) (fun j => g (ix1 j))
        (fun j => c (ix1 j)) (fun k f => W1 (ix2 k f)) (fun k f => W2 (ix2 k f)) (fun f j => W3 (ix2 f j)) j := by
  pointwise [array]

end Cert.KernelValue

end
-- ==== Proof.Equation.lean ====
/-
  The equation: where the affinities are finite and the mask is all ones, the reference's result and the kernel's are
  the same array.
-/
module

public import proofs.«01_k».proof.Proof.RefFrame
public import proofs.«01_k».proof.Proof.RefValue
public import proofs.«01_k».proof.Proof.KernelValue

@[expose] public section

set_option maxRecDepth 16384

noncomputable section

namespace Cert.Equation

open Idealize.ShloMosaic Idealize.ShloMosaic.TcCoe Idealize.ShloMosaic.StableHlo Cert.RefTerms

/-- The two programs' results, as arrays over the arguments, are equal. -/
theorem arrays (x : FVec Ideal Cert.KernelIdeal.S8x2048x128 .f32) (k : IVec Cert.KernelIdeal.S8x2048 1)
    (vW : FVec Ideal Cert.KernelIdeal.S128x128 .f32) (vb g c : FVec Ideal Cert.KernelIdeal.S128 .f32)
    (tbl : FVec Ideal Cert.KernelIdeal.S128x128 .f32) (W : FVec Ideal Cert.KernelIdeal.S128x8 .f32)
    (b : FVec Ideal Cert.KernelIdeal.S8 .f32) (W1 W2 : FVec Ideal Cert.KernelIdeal.S128x512 .f32)
    (W3 : FVec Ideal Cert.KernelIdeal.S512x128 .f32) (hk : k = fun _ => 1#1) (ht : RefValue.Finite tbl)
    (hW : RefValue.Finite W) (hb : RefValue.Finite b) (gap : Arr Ideal Cert.ReferenceIdeal.S8x2048x32x128 .f32)
    (idx : Arr Ideal Cert.ReferenceIdeal.S8x2048x32 .i32) :
    feedForward (F := Ideal) (layerNorm (update (RefRun.weights gap idx k tbl W b) (values x vW vb)) g c) W1 W2 W3 x =
      shapeCast Cert.KernelIdeal.S8x2048x128
        (KernelArray.array (shapeCast Cert.KernelIdeal.S16384x128 x Cert.KernelIdeal.Gen.shapeCasts_S8x2048x128_S16384x128)
          vW (shapeCast Cert.KernelIdeal.S1x128 vb Cert.KernelIdeal.Gen.shapeCasts_S128_S1x128)
          (shapeCast Cert.KernelIdeal.S1x128 g Cert.KernelIdeal.Gen.shapeCasts_S128_S1x128)
          (shapeCast Cert.KernelIdeal.S1x128 c Cert.KernelIdeal.Gen.shapeCasts_S128_S1x128) W1 W2 W3)
        Cert.KernelIdeal.Gen.shapeCasts_S16384x128_S8x2048x128 := by
  funext j
  idx_vars j
  rw [RefValue.result_row ht hW hb gap idx k hk, KernelValue.batches]

/-- The reference's result is the kernel's, wherever its arguments hold the kernel's arrays. -/
theorem line (V : Valuation Cert.ReferenceIdeal.τ Cert.ReferenceIdeal.sig (Elt Ideal))
    (x : FVec Ideal Cert.KernelIdeal.S8x2048x128 .f32) (k : IVec Cert.KernelIdeal.S8x2048 1)
    (vW : FVec Ideal Cert.KernelIdeal.S128x128 .f32) (vb g c : FVec Ideal Cert.KernelIdeal.S128 .f32)
    (tbl : FVec Ideal Cert.KernelIdeal.S128x128 .f32) (W : FVec Ideal Cert.KernelIdeal.S128x8 .f32)
    (b : FVec Ideal Cert.KernelIdeal.S8 .f32) (W1 W2 : FVec Ideal Cert.KernelIdeal.S128x512 .f32)
    (W3 : FVec Ideal Cert.KernelIdeal.S512x128 .f32) (hk : k = fun _ => 1#1) (ht : RefValue.Finite tbl)
    (hW : RefValue.Finite W) (hb : RefValue.Finite b)
    (e0 : V (Proc.devRef .tc Cert.ReferenceIdeal.main_arg0) = x) (e3 : V (Proc.devRef .tc Cert.ReferenceIdeal.main_arg3) = k)
    (e4 : V (Proc.devRef .tc Cert.ReferenceIdeal.main_arg4) = vW) (e5 : V (Proc.devRef .tc Cert.ReferenceIdeal.main_arg5) = vb)
    (e6 : V (Proc.devRef .tc Cert.ReferenceIdeal.main_arg6) = tbl) (e7 : V (Proc.devRef .tc Cert.ReferenceIdeal.main_arg7) = W)
    (e8 : V (Proc.devRef .tc Cert.ReferenceIdeal.main_arg8) = b) (e9 : V (Proc.devRef .tc Cert.ReferenceIdeal.main_arg9) = g)
    (e10 : V (Proc.devRef .tc Cert.ReferenceIdeal.main_arg10) = c) (e11 : V (Proc.devRef .tc Cert.ReferenceIdeal.main_arg11) = W1)
    (e12 : V (Proc.devRef .tc Cert.ReferenceIdeal.main_arg12) = W2) (e13 : V (Proc.devRef .tc Cert.ReferenceIdeal.main_arg13) = W3) :
    after RefLine.ops V (Proc.devRef .tc Cert.ReferenceIdeal.main_v94) =
      shapeCast Cert.KernelIdeal.S8x2048x128
        (KernelArray.array (shapeCast Cert.KernelIdeal.S16384x128 x Cert.KernelIdeal.Gen.shapeCasts_S8x2048x128_S16384x128)
          vW (shapeCast Cert.KernelIdeal.S1x128 vb Cert.KernelIdeal.Gen.shapeCasts_S128_S1x128)
          (shapeCast Cert.KernelIdeal.S1x128 g Cert.KernelIdeal.Gen.shapeCasts_S128_S1x128)
          (shapeCast Cert.KernelIdeal.S1x128 c Cert.KernelIdeal.Gen.shapeCasts_S128_S1x128) W1 W2 W3)
        Cert.KernelIdeal.Gen.shapeCasts_S16384x128_S8x2048x128 := by
  obtain ⟨gap, idx, h⟩ := RefRun.result V
  rw [h, e0, e3, e4, e5, e6, e7, e8, e9, e10, e11, e12, e13]
  exact arrays x k vW vb g c tbl W b W1 W2 W3 hk ht hW hb gap idx

/-- The kernel's array after the run, over the arguments. -/
theorem kernel_array (m : (ℓ : Loc Cert.KernelIdeal.nD Cert.KernelIdeal.τ Cert.KernelIdeal.sig) → Buf (Elt Ideal) ℓ)
    (c : Dev Cert.KernelIdeal.nD) : (Cert.KernelIdeal.Gen.dats m 0 c).arrAt 8 Cert.KernelIdeal.cfg0.N =
      KernelArray.array
        (shapeCast Cert.KernelIdeal.S16384x128 (m ((c : Thread Cert.KernelIdeal.nD Cert.KernelIdeal.τ).loc Cert.KernelIdeal.main_arg0))
          Cert.KernelIdeal.Gen.shapeCasts_S8x2048x128_S16384x128)
        (m ((c : Thread Cert.KernelIdeal.nD Cert.KernelIdeal.τ).loc Cert.KernelIdeal.main_arg4))
        (shapeCast Cert.KernelIdeal.S1x128 (m ((c : Thread Cert.KernelIdeal.nD Cert.KernelIdeal.τ).loc Cert.KernelIdeal.main_arg5))
          Cert.KernelIdeal.Gen.shapeCasts_S128_S1x128)
        (shapeCast Cert.KernelIdeal.S1x128 (m ((c : Thread Cert.KernelIdeal.nD Cert.KernelIdeal.τ).loc Cert.KernelIdeal.main_arg9))
          Cert.KernelIdeal.Gen.shapeCasts_S128_S1x128)
        (shapeCast Cert.KernelIdeal.S1x128 (m ((c : Thread Cert.KernelIdeal.nD Cert.KernelIdeal.τ).loc Cert.KernelIdeal.main_arg10))
          Cert.KernelIdeal.Gen.shapeCasts_S128_S1x128)
        (m ((c : Thread Cert.KernelIdeal.nD Cert.KernelIdeal.τ).loc Cert.KernelIdeal.main_arg11))
        (m ((c : Thread Cert.KernelIdeal.nD Cert.KernelIdeal.τ).loc Cert.KernelIdeal.main_arg12))
        (m ((c : Thread Cert.KernelIdeal.nD Cert.KernelIdeal.τ).loc Cert.KernelIdeal.main_arg13)) := by
  rw [KernelArray.final, KernelValue.rows_in, KernelValue.bias_in, KernelValue.gain_in, KernelValue.offset_in,
    Cert.KernelIdeal.Gen.V_main_arg4, Cert.KernelIdeal.Gen.V_main_arg11, Cert.KernelIdeal.Gen.V_main_arg12,
    Cert.KernelIdeal.Gen.V_main_arg13]

end Cert.Equation

end
-- ==== Proof.lean ====
/-
  The certificate's proof: the programs' facts, the frames of the kernel, of its idealization and of the reference, and
  the equation between the idealization's result and the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Precondition
public import proofs.«01_k».proof.Proof.Equation
public import Idealize.ShloMosaic.Lib.Claim

@[expose] public section

set_option maxRecDepth 16384

noncomputable section

namespace Cert.Proof

open Idealize.ShloMosaic Idealize.ShloMosaic.TcCoe Idealize.SL.Sem

/-- The reference runs, leaves its arguments as they were, and ends with every counter at zero. -/
theorem reference_quiescent : Cert.quiescent_ReferenceIdeal := fun m g _ =>
  θ_run_mono (RefFrame.ends m g) fun _ h =>
    ⟨fun c => by and_intros <;> exact (h.1 c).2 _ (by decide), h.2⟩

/-- Where the affinities are finite and the mask is all ones, the idealization's result is the reference's. -/
theorem algebraic : Cert.algebraic_KernelIdeal_ReferenceIdeal_pre_finite_affinities_no_padding := by
  pair_intro
  · run_from Cert.KernelIdeal.Gen.run_main m g
    all_goals first
      | with_reducible exact Cert.KernelIdeal.Gen.W_main_arg0 m _ c
      | with_reducible exact Cert.KernelIdeal.Gen.W_main_arg1 m _ c
      | with_reducible exact Cert.KernelIdeal.Gen.W_main_arg2 m _ c
      | with_reducible exact Cert.KernelIdeal.Gen.W_main_arg3 m _ c
      | with_reducible exact Cert.KernelIdeal.Gen.W_main_arg5 m _ c
      | with_reducible exact Cert.KernelIdeal.Gen.W_main_arg6 m _ c
      | with_reducible exact Cert.KernelIdeal.Gen.W_main_arg7 m _ c
      | with_reducible exact Cert.KernelIdeal.Gen.W_main_arg8 m _ c
      | with_reducible exact Cert.KernelIdeal.Gen.W_main_arg9 m _ c
      | with_reducible exact Cert.KernelIdeal.Gen.W_main_arg10 m _ c
      | with_reducible exact Cert.KernelIdeal.Gen.W_main_arg14 m _ c
  · refine θ_run_mono (RefFrame.ends m' g') fun r h c => ?_
    refine ⟨((h.1 c).1).trans ?_, by and_intros <;> exact (h.1 c).2 _ (by decide)⟩
    obtain ⟨h0, -, -, h3, h4, h5, h6, h7, h8, h9, h10, h11, h12, h13, -⟩ := hagree c
    obtain ⟨hk, ht, hW, hb⟩ := hpre c
    refine (Equation.line (StableHlo.launchContents m' c) _ _ _ _ _ _ _ _ _ _ _ _ hk (Precondition.finite_of_below _ _ ht)
      (Precondition.finite_of_below _ _ hW) (Precondition.finite_of_below _ _ hb) h0 h3 h4 h5 h6 h7 h8 h9 h10 h11 h12
      h13).trans ?_
    rw [KernelValue.result_out, Equation.kernel_array]

/-- The claim. -/
theorem claim : Cert.Claim :=
  ⟨Cert.Kernel.Gen.facts, Cert.KernelIdeal.Gen.facts, Cert.ReferenceIdeal.Gen.facts, Precondition.facts,
    fun m g _ => Cert.Kernel.Gen.frame m g,
    fun m g _ => Cert.KernelIdeal.Gen.frame m g,
    fun m g _ => Cert.KernelIdeal.Gen.frame m g,
    reference_quiescent,
    fun m g _ => reference_quiescent m g trivial,
    trivial,
    algebraic⟩

end Cert.Proof

end
